-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_max_nonneg [hPre_finite_and_max_nonneg : Cert.Pre_finite_and_max_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_max_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_max_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_max_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_max_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_max_nonneg [hPre_finite_and_max_nonneg : Cert.Pre_finite_and_max_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_max_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_max_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_max_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_max_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_max_nonneg [hKernelIdeal : Cert.KernelIdeal.Facts] [hPre_finite_and_max_nonneg : Cert.Pre_finite_and_max_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_max_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_max_nonneg [hReferenceIdeal : Cert.ReferenceIdeal.Facts] [hPre_finite_and_max_nonneg : Cert.Pre_finite_and_max_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_max_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_max_nonneg [hKernelIdeal : Cert.KernelIdeal.Facts] [hReferenceIdeal : Cert.ReferenceIdeal.Facts] [hPre_finite_and_max_nonneg : Cert.Pre_finite_and_max_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_max_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_max_nonneg : Cert.Pre_finite_and_max_nonneg.Facts),
    quiescent_Kernel (hKernel := hKernel)
    ∧ quiescent_KernelIdeal (hKernelIdeal := hKernelIdeal)
    ∧ quiescent_KernelIdeal_pre_finite_and_max_nonneg (hKernelIdeal := hKernelIdeal) (hPre_finite_and_max_nonneg := hPre_finite_and_max_nonneg)
    ∧ quiescent_ReferenceIdeal (hReferenceIdeal := hReferenceIdeal)
    ∧ quiescent_ReferenceIdeal_pre_finite_and_max_nonneg (hReferenceIdeal := hReferenceIdeal) (hPre_finite_and_max_nonneg := hPre_finite_and_max_nonneg)
    ∧ preserves_Kernel_KernelIdeal
    ∧ algebraic_KernelIdeal_ReferenceIdeal_pre_finite_and_max_nonneg (hKernelIdeal := hKernelIdeal) (hReferenceIdeal := hReferenceIdeal) (hPre_finite_and_max_nonneg := hPre_finite_and_max_nonneg)
-- ==== Pre_finite_and_max_nonneg.lean ====
abbrev S8x16x256x256 : Shape := ⟨4, ![8, 16, 256, 256]⟩
abbrev S8x8 : Shape := ⟨2, ![8, 8]⟩
abbrev S3x3x3 : Shape := ⟨3, ![3, 3, 3]⟩
abbrev S_ : Shape := ⟨0, ![]⟩

class Facts : Prop where
  bcast_S_S8x16x256x256 : S_.BroadcastsInDim S8x16x256x256 (![] : Fin 0 → Fin S8x16x256x256.rank)
  bcast_S_S8x8 : S_.BroadcastsInDim S8x8 (![] : Fin 0 → Fin S8x8.rank)
  bcast_S_S3x3x3 : S_.BroadcastsInDim S3x3x3 (![] : Fin 0 → Fin S3x3x3.rank)
  reducesTo_S8x16x256x256_S_d0_1_2_3 : S8x16x256x256.ReducesTo [0, 1, 2, 3] S_
  h_S_ : 0 < S_.numel

variable [Facts]

def fn {F : FTy → Type} [FloatOps F] (main_arg0 : FVec F S8x16x256x256 .f32) (main_arg1 : FVec F S8x8 .f32) (main_arg2 : FVec F S3x3x3 .f32) : IVec S8x16x256x256 1 × IVec S8x8 1 × IVec S3x3x3 1 × IVec S_ 1 :=
  let main_v0 : FVec F S8x16x256x256 .f32 := Host.absf main_arg0
  let main_cst : FVec F S_ .f32 := constant S_ .f32 0x7F800000#32
  let main_v1 : FVec F S8x16x256x256 .f32 := broadcastInDim S8x16x256x256 ![] bcast_S_S8x16x256x256 main_cst
  let main_v2 : IVec S8x16x256x256 1 := cmpf .olt main_v0 main_v1
  let main_v3 : FVec F S8x8 .f32 := Host.absf main_arg1
  let main_cst_0 : FVec F S_ .f32 := constant S_ .f32 0x7F800000#32
  let main_v4 : FVec F S8x8 .f32 := broadcastInDim S8x8 ![] bcast_S_S8x8 main_cst_0
  let main_v5 : IVec S8x8 1 := cmpf .olt main_v3 main_v4
  let main_v6 : FVec F S3x3x3 .f32 := Host.absf main_arg2
  let main_cst_1 : FVec F S_ .f32 := constant S_ .f32 0x7F800000#32
  let main_v7 : FVec F S3x3x3 .f32 := broadcastInDim S3x3x3 ![] bcast_S_S3x3x3 main_cst_1
  let main_v8 : IVec S3x3x3 1 := cmpf .olt main_v6 main_v7
  let main_cst_2 : FVec F S_ .f32 := constant S_ .f32 0xFF800000#32
  let main_v9 : FVec F S_ .f32 := (fun x v => Host.reduce FloatOps.maximumf x v reducesTo_S8x16x256x256_S_d0_1_2_3 h_S_) main_arg0 main_cst_2
  let main_cst_3 : FVec F S_ .f32 := constant S_ .f32 0x00000000#32
  let main_v10 : IVec S_ 1 := cmpf .oge main_v9 main_cst_3
  (main_v2, main_v5, main_v8, main_v10)
-- ==== Kernel.lean ====
abbrev S8x16x256x256 : Shape := ⟨4, ![8, 16, 256, 256]⟩
abbrev S8x8 : Shape := ⟨2, ![8, 8]⟩
abbrev S3x3x3 : Shape := ⟨3, ![3, 3, 3]⟩
abbrev S8x1x128 : Shape := ⟨3, ![8, 1, 128]⟩
abbrev S1x16x256x256 : Shape := ⟨4, ![1, 16, 256, 256]⟩
abbrev S1x1x128 : Shape := ⟨3, ![1, 1, 128]⟩
abbrev S16x256x256 : Shape := ⟨3, ![16, 256, 256]⟩
abbrev S4096x256 : Shape := ⟨2, ![4096, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x1x1 : Shape := ⟨3, ![1, 1, 1]⟩
abbrev S64 : Shape := ⟨1, ![64]⟩
abbrev S27 : Shape := ⟨1, ![27]⟩
abbrev S1x8x1x128 : Shape := ⟨4, ![1, 8, 1, 128]⟩
abbrev S1x1x1x1 : Shape := ⟨4, ![1, 1, 1, 1]⟩
abbrev S1x258x256 : Shape := ⟨3, ![1, 258, 256]⟩
abbrev S18x258x1 : Shape := ⟨3, ![18, 258, 1]⟩
abbrev S16x1x256 : Shape := ⟨3, ![16, 1, 256]⟩
abbrev S16x258x256 : Shape := ⟨3, ![16, 258, 256]⟩
abbrev S18x258x256 : Shape := ⟨3, ![18, 258, 256]⟩
abbrev S18x258x255 : Shape := ⟨3, ![18, 258, 255]⟩

abbrev nBuf : Space → Nat
  | .hbm => 9
  | .vmem => 14
  | .smem => 2
  | _ => 0

abbrev bufTy : (tb : Table) → Fin (tcTables nBuf tb) → BufTy
  | .hbm, ⟨0, _⟩ => ⟨S8x16x256x256, .f32⟩
  | .hbm, ⟨1, _⟩ => ⟨S8x8, .f32⟩
  | .hbm, ⟨2, _⟩ => ⟨S3x3x3, .f32⟩
  | .hbm, ⟨3, _⟩ => ⟨S8x1x128, .f32⟩
  | .hbm, ⟨4, _⟩ => ⟨S8x1x128, .f32⟩
  | .hbm, ⟨5, _⟩ => ⟨S64, .f32⟩
  | .hbm, ⟨6, _⟩ => ⟨S27, .f32⟩
  | .hbm, ⟨7, _⟩ => ⟨S8x16x256x256, .f32⟩
  | .hbm, ⟨8, _⟩ => ⟨S8x16x256x256, .i32⟩
  | .local _ .vmem, ⟨0, _⟩ => ⟨S1x16x256x256, .f32⟩
  | .local _ .vmem, ⟨1, _⟩ => ⟨S1x16x256x256, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S8x1x128, .f32⟩
  | .local _ .vmem, ⟨7, _⟩ => ⟨S8x1x128, .f32⟩
  | .local _ .vmem, ⟨8, _⟩ => ⟨S1x16x256x256, .f32⟩
  | .local _ .vmem, ⟨9, _⟩ => ⟨S1x16x256x256, .f32⟩
  | .local _ .vmem, ⟨10, _⟩ => ⟨S1x16x256x256, .f32⟩
  | .local _ .vmem, ⟨11, _⟩ => ⟨S1x16x256x256, .f32⟩
  | .local _ .vmem, ⟨12, _⟩ => ⟨S1x16x256x256, .i32⟩
  | .local _ .vmem, ⟨13, _⟩ => ⟨S1x16x256x256, .i32⟩
  | .local _ .smem, ⟨0, _⟩ => ⟨S64, .f32⟩
  | .local _ .smem, ⟨1, _⟩ => ⟨S27, .f32⟩
  | _, _ => ⟨S8x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S27 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x16x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x16x256x256 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S8x16x256x256 : Shape := ⟨4, ![8, 16, 256, 256]⟩
abbrev S8x8 : Shape := ⟨2, ![8, 8]⟩
abbrev S3x3x3 : Shape := ⟨3, ![3, 3, 3]⟩
abbrev S_ : Shape := ⟨0, ![]⟩
abbrev S8x16x256x256x1 : Shape := ⟨5, ![8, 16, 256, 256, 1]⟩
abbrev S8x8x16x256x256 : Shape := ⟨5, ![8, 8, 16, 256, 256]⟩
abbrev S1x8x16x256x256 : Shape := ⟨5, ![1, 8, 16, 256, 256]⟩
abbrev S8x8x18x258x258 : Shape := ⟨5, ![8, 8, 18, 258, 258]⟩
abbrev S1x1x1 : Shape := ⟨3, ![1, 1, 1]⟩
abbrev S8 : Shape := ⟨1, ![8]⟩
abbrev S8x1x1x1x1 : Shape := ⟨5, ![8, 1, 1, 1, 1]⟩

abbrev nBuf : Space → Nat
  | .hbm => 205
  | .vmem => 0
  | .smem => 0
  | _ => 0

abbrev hbmTy0_0 (i : Nat) : BufTy := match i % 128 with
  | 0 => ⟨S8x16x256x256, .f32⟩
  | 1 => ⟨S8x8, .f32⟩
  | 2 => ⟨S3x3x3, .f32⟩
  | 3 => ⟨S_, .f32⟩
  | 4 => ⟨S_, .f32⟩
  | 5 => ⟨S_, .f32⟩
  | 6 => ⟨S_, .f32⟩
  | 7 => ⟨S8x16x256x256, .f32⟩
  | 8 => ⟨S8x16x256x256, .f32⟩
  | 9 => ⟨S8x16x256x256, .f32⟩
  | 10 => ⟨S8x16x256x256, .f32⟩
  | 11 => ⟨S_, .f32⟩
  | 12 => ⟨S8x16x256x256, .f32⟩
  | 13 => ⟨S8x16x256x256, .f32⟩
  | 14 => ⟨S8x16x256x256, .f32⟩
  | 15 => ⟨S8x16x256x256, .i32⟩
  | 16 => ⟨S_, .i32⟩
  | 17 => ⟨S8x16x256x256, .i32⟩
  | 18 => ⟨S8x16x256x256, .i1⟩
  | 19 => ⟨S_, .i32⟩
  | 20 => ⟨S8x16x256x256, .i32⟩
  | 21 => ⟨S8x16x256x256, .i32⟩
  | 22 => ⟨S8x16x256x256, .i32⟩
  | 23 => ⟨S8x16x256x256x1, .i32⟩
  | 24 => ⟨S8x8x16x256x256, .f32⟩
  | 25 => ⟨S1x8x16x256x256, .f32⟩
  | 26 => ⟨S8x8x16x256x256, .f32⟩
  | 27 => ⟨S8x8x16x256x256, .f32⟩
  | 28 => ⟨S_, .i32⟩
  | 29 => ⟨S_, .f32⟩
  | 30 => ⟨S8x8x18x258x258, .f32⟩
  | 31 => ⟨S_, .f32⟩
  | 32 => ⟨S8x8x16x256x256, .f32⟩
  | 33 => ⟨S1x1x1, .f32⟩
  | 34 => ⟨S_, .f32⟩
  | 35 => ⟨S8x8x16x256x256, .f32⟩
  | 36 => ⟨S8x8x16x256x256, .f32⟩
  | 37 => ⟨S8x8x16x256x256, .f32⟩
  | 38 => ⟨S8x8x16x256x256, .f32⟩
  | 39 => ⟨S1x1x1, .f32⟩
  | 40 => ⟨S_, .f32⟩
  | 41 => ⟨S8x8x16x256x256, .f32⟩
  | 42 => ⟨S8x8x16x256x256, .f32⟩
  | 43 => ⟨S8x8x16x256x256, .f32⟩
  | 44 => ⟨S8x8x16x256x256, .f32⟩
  | 45 => ⟨S1x1x1, .f32⟩
  | 46 => ⟨S_, .f32⟩
  | 47 => ⟨S8x8x16x256x256, .f32⟩
  | 48 => ⟨S8x8x16x256x256, .f32⟩
  | 49 => ⟨S8x8x16x256x256, .f32⟩
  | 50 => ⟨S8x8x16x256x256, .f32⟩
  | 51 => ⟨S1x1x1, .f32⟩
  | 52 => ⟨S_, .f32⟩
  | 53 => ⟨S8x8x16x256x256, .f32⟩
  | 54 => ⟨S8x8x16x256x256, .f32⟩
  | 55 => ⟨S8x8x16x256x256, .f32⟩
  | 56 => ⟨S8x8x16x256x256, .f32⟩
  | 57 => ⟨S1x1x1, .f32⟩
  | 58 => ⟨S_, .f32⟩
  | 59 => ⟨S8x8x16x256x256, .f32⟩
  | 60 => ⟨S8x8x16x256x256, .f32⟩
  | 61 => ⟨S8x8x16x256x256, .f32⟩
  | 62 => ⟨S8x8x16x256x256, .f32⟩
  | 63 => ⟨S1x1x1, .f32⟩
  | 64 => ⟨S_, .f32⟩
  | 65 => ⟨S8x8x16x256x256, .f32⟩
  | 66 => ⟨S8x8x16x256x256, .f32⟩
  | 67 => ⟨S8x8x16x256x256, .f32⟩
  | 68 => ⟨S8x8x16x256x256, .f32⟩
  | 69 => ⟨S1x1x1, .f32⟩
  | 70 => ⟨S_, .f32⟩
  | 71 => ⟨S8x8x16x256x256, .f32⟩
  | 72 => ⟨S8x8x16x256x256, .f32⟩
  | 73 => ⟨S8x8x16x256x256, .f32⟩
  | 74 => ⟨S8x8x16x256x256, .f32⟩
  | 75 => ⟨S1x1x1, .f32⟩
  | 76 => ⟨S_, .f32⟩
  | 77 => ⟨S8x8x16x256x256, .f32⟩
  | 78 => ⟨S8x8x16x256x256, .f32⟩
  | 79 => ⟨S8x8x16x256x256, .f32⟩
  | 80 => ⟨S8x8x16x256x256, .f32⟩
  | 81 => ⟨S1x1x1, .f32⟩
  | 82 => ⟨S_, .f32⟩
  | 83 => ⟨S8x8x16x256x256, .f32⟩
  | 84 => ⟨S8x8x16x256x256, .f32⟩
  | 85 => ⟨S8x8x16x256x256, .f32⟩
  | 86 => ⟨S8x8x16x256x256, .f32⟩
  | 87 => ⟨S1x1x1, .f32⟩
  | 88 => ⟨S_, .f32⟩
  | 89 => ⟨S8x8x16x256x256, .f32⟩
  | 90 => ⟨S8x8x16x256x256, .f32⟩
  | 91 => ⟨S8x8x16x256x256, .f32⟩
  | 92 => ⟨S8x8x16x256x256, .f32⟩
  | 93 => ⟨S1x1x1, .f32⟩
  | 94 => ⟨S_, .f32⟩
  | 95 => ⟨S8x8x16x256x256, .f32⟩
  | 96 => ⟨S8x8x16x256x256, .f32⟩
  | 97 => ⟨S8x8x16x256x256, .f32⟩
  | 98 => ⟨S8x8x16x256x256, .f32⟩
  | 99 => ⟨S1x1x1, .f32⟩
  | 100 => ⟨S_, .f32⟩
  | 101 => ⟨S8x8x16x256x256, .f32⟩
  | 102 => ⟨S8x8x16x256x256, .f32⟩
  | 103 => ⟨S8x8x16x256x256, .f32⟩
  | 104 => ⟨S8x8x16x256x256, .f32⟩
  | 105 => ⟨S1x1x1, .f32⟩
  | 106 => ⟨S_, .f32⟩
  | 107 => ⟨S8x8x16x256x256, .f32⟩
  | 108 => ⟨S8x8x16x256x256, .f32⟩
  | 109 => ⟨S8x8x16x256x256, .f32⟩
  | 110 => ⟨S8x8x16x256x256, .f32⟩
  | 111 => ⟨S1x1x1, .f32⟩
  | 112 => ⟨S_, .f32⟩
  | 113 => ⟨S8x8x16x256x256, .f32⟩
  | 114 => ⟨S8x8x16x256x256, .f32⟩
  | 115 => ⟨S8x8x16x256x256, .f32⟩
  | 116 => ⟨S8x8x16x256x256, .f32⟩
  | 117 => ⟨S1x1x1, .f32⟩
  | 118 => ⟨S_, .f32⟩
  | 119 => ⟨S8x8x16x256x256, .f32⟩
  | 120 => ⟨S8x8x16x256x256, .f32⟩
  | 121 => ⟨S8x8x16x256x256, .f32⟩
  | 122 => ⟨S8x8x16x256x256, .f32⟩
  | 123 => ⟨S1x1x1, .f32⟩
  | 124 => ⟨S_, .f32⟩
  | 125 => ⟨S8x8x16x256x256, .f32⟩
  | 126 => ⟨S8x8x16x256x256, .f32⟩
  | 127 => ⟨S8x8x16x256x256, .f32⟩
  | _ => ⟨S8x16x256x256, .f32⟩

abbrev hbmTy0_1 (i : Nat) : BufTy := match i % 128 with
  | 0 => ⟨S8x8x16x256x256, .f32⟩
  | 1 => ⟨S1x1x1, .f32⟩
  | 2 => ⟨S_, .f32⟩
  | 3 => ⟨S8x8x16x256x256, .f32⟩
  | 4 => ⟨S8x8x16x256x256, .f32⟩
  | 5 => ⟨S8x8x16x256x256, .f32⟩
  | 6 => ⟨S8x8x16x256x256, .f32⟩
  | 7 => ⟨S1x1x1, .f32⟩
  | 8 => ⟨S_, .f32⟩
  | 9 => ⟨S8x8x16x256x256, .f32⟩
  | 10 => ⟨S8x8x16x256x256, .f32⟩
  | 11 => ⟨S8x8x16x256x256, .f32⟩
  | 12 => ⟨S8x8x16x256x256, .f32⟩
  | 13 => ⟨S1x1x1, .f32⟩
  | 14 => ⟨S_, .f32⟩
  | 15 => ⟨S8x8x16x256x256, .f32⟩
  | 16 => ⟨S8x8x16x256x256, .f32⟩
  | 17 => ⟨S8x8x16x256x256, .f32⟩
  | 18 => ⟨S8x8x16x256x256, .f32⟩
  | 19 => ⟨S1x1x1, .f32⟩
  | 20 => ⟨S_, .f32⟩
  | 21 => ⟨S8x8x16x256x256, .f32⟩
  | 22 => ⟨S8x8x16x256x256, .f32⟩
  | 23 => ⟨S8x8x16x256x256, .f32⟩
  | 24 => ⟨S8x8x16x256x256, .f32⟩
  | 25 => ⟨S1x1x1, .f32⟩
  | 26 => ⟨S_, .f32⟩
  | 27 => ⟨S8x8x16x256x256, .f32⟩
  | 28 => ⟨S8x8x16x256x256, .f32⟩
  | 29 => ⟨S8x8x16x256x256, .f32⟩
  | 30 => ⟨S8x8x16x256x256, .f32⟩
  | 31 => ⟨S1x1x1, .f32⟩
  | 32 => ⟨S_, .f32⟩
  | 33 => ⟨S8x8x16x256x256, .f32⟩
  | 34 => ⟨S8x8x16x256x256, .f32⟩
  | 35 => ⟨S8x8x16x256x256, .f32⟩
  | 36 => ⟨S8x8x16x256x256, .f32⟩
  | 37 => ⟨S1x1x1, .f32⟩
  | 38 => ⟨S_, .f32⟩
  | 39 => ⟨S8x8x16x256x256, .f32⟩
  | 40 => ⟨S8x8x16x256x256, .f32⟩
  | 41 => ⟨S8x8x16x256x256, .f32⟩
  | 42 => ⟨S8x8x16x256x256, .f32⟩
  | 43 => ⟨S1x1x1, .f32⟩
  | 44 => ⟨S_, .f32⟩
  | 45 => ⟨S8x8x16x256x256, .f32⟩
  | 46 => ⟨S8x8x16x256x256, .f32⟩
  | 47 => ⟨S8x8x16x256x256, .f32⟩
  | 48 => ⟨S8x8x16x256x256, .f32⟩
  | 49 => ⟨S1x1x1, .f32⟩
  | 50 => ⟨S_, .f32⟩
  | 51 => ⟨S8x8x16x256x256, .f32⟩
  | 52 => ⟨S8x8x16x256x256, .f32⟩
  | 53 => ⟨S8x8x16x256x256, .f32⟩
  | 54 => ⟨S8x8x16x256x256, .f32⟩
  | 55 => ⟨S1x1x1, .f32⟩
  | 56 => ⟨S_, .f32⟩
  | 57 => ⟨S8x8x16x256x256, .f32⟩
  | 58 => ⟨S8x8x16x256x256, .f32⟩
  | 59 => ⟨S8x8x16x256x256, .f32⟩
  | 60 => ⟨S8x8x16x256x256, .f32⟩
  | 61 => ⟨S1x1x1, .f32⟩
  | 62 => ⟨S_, .f32⟩
  | 63 => ⟨S8x8x16x256x256, .f32⟩
  | 64 => ⟨S8x8x16x256x256, .f32⟩
  | 65 => ⟨S8x8x16x256x256, .f32⟩
  | 66 => ⟨S8x8x16x256x256, .f32⟩
  | 67 => ⟨S1x8x16x256x256, .i32⟩
  | 68 => ⟨S8, .i32⟩
  | 69 => ⟨S8x1x1x1x1, .i32⟩
  | 70 => ⟨S8x8x16x256x256, .i32⟩
  | 71 => ⟨S8x8x16x256x256, .i32⟩
  | 72 => ⟨S8x8x16x256x256, .i1⟩
  | 73 => ⟨S8x8x16x256x256, .f32⟩
  | 74 => ⟨S8x8x16x256x256, .f32⟩
  | 75 => ⟨S_, .f32⟩
  | 76 => ⟨S8x16x256x256, .f32⟩
  | _ => ⟨S8x16x256x256, .f32⟩

abbrev hbmTy (i : Nat) : BufTy := match i / 128 with
  | 0 => hbmTy0_0 i
  | 1 => hbmTy0_1 i
  | _ => ⟨S8x16x256x256, .f32⟩

abbrev bufTy : (tb : Table) → Fin (tcTables nBuf tb) → BufTy
  | .hbm, ⟨i, _⟩ => hbmTy i
  | _, _ => ⟨S8x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_call0_v0 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_cst_5 : Ref sig .tc := ⟨.hbm, 203, rfl⟩
abbrev main_v192 : Ref sig .tc := ⟨.hbm, 204, rfl⟩

abbrev nD : Nat := 1
abbrev τ : Topo := Topo.v7x

variable {F : FTy → Type} [FloatOps F]
-- ==== Proof.Run.lean ====
/- The launch of the kernel's program, read at its results: the run of `main` over the generated segments, ending with
   each result buffer at the last boundary's contents `W3`. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution of `main` ends with the two computed result arrays at the last boundary's contents and the three
    argument arrays as launched. -/
theorem run : θ_run defs (onTc (τ := τ) (main (F := F))) ⟨m, fun _ => 0, ρ⟩ (fun r => ∀ c : Dev nD,
      r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨h c _ (mem_uc main_v3_0 (by decide)), h c _ (mem_uc main_v3_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Val

end
-- ==== Proof.Struct.lean ====
/- The main kernel's stored values, as one expression in its parts: the padded block, the bin of every entry, per bin the
   27 shifted products added up, the weight picked by the entry's own bin, and the eight bins' products added up. The
   printed body spells this out operation by operation over some 190 values; here each part is a function, written once. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Cert.KernelIdeal.Gen

variable {F : FTy → Type} [FloatOps F]

/-- The block with a row of zeros above and below every channel. -/
def padRows (v : Vec F S1x16x256x256 .f32) : FVec F S16x258x256 .f32 :=
  concatenate S16x258x256 1 [⟨S16x1x256, broadcast S16x1x256 (Scalar.ofBits .f32 0x00000000#32)⟩,
    ⟨S16x256x256, shapeCast S16x256x256 v shapeCasts_S1x16x256x256_S16x256x256⟩,
    ⟨S16x1x256, broadcast S16x1x256 (Scalar.ofBits .f32 0x00000000#32)⟩] concatenates_S16x1x256_S16x256x256_S16x1x256_S16x258x256_d1

/-- Every entry's bin, as a float: the floor of `(x - lo) / hi * 8`. -/
def bins (lo hi : F .f32) (x : FVec F S16x258x256 .f32) : FVec F S16x258x256 .f32 :=
  floor (mulf (divf (subf x (broadcast S16x258x256 lo)) (broadcast S16x258x256 hi)) (broadcast S16x258x256 (Scalar.ofBits .f32 0x41000000#32)))

/-- The bins of the block's own rows. -/
def inner (x : FVec F S16x258x256 .bf16) : FVec F S16x256x256 .bf16 :=
  extractStridedSlice S16x256x256 ![0, 1, 0] x slices_S16x258x256_o0_1_0_S16x256x256

/-- The entries whose bin compares with `w` by `p`, zero elsewhere. -/
def keep (p : CmpFPredicate) (w : BitVec 16) (b x : FVec F S16x258x256 .bf16) : FVec F S16x258x256 .bf16 :=
  select (cmpf p b (broadcast S16x258x256 (Scalar.ofBits .bf16 w))) x (broadcast S16x258x256 (Scalar.ofBits .bf16 0x0000#16))

/-- A channel of zeros before the first and after the last. -/
def padChans (x : FVec F S16x258x256 .bf16) : FVec F S18x258x256 .bf16 :=
  concatenate S18x258x256 0 [⟨S1x258x256, broadcast S1x258x256 (Scalar.ofBits .bf16 0x0000#16)⟩, ⟨S16x258x256, x⟩,
    ⟨S1x258x256, broadcast S1x258x256 (Scalar.ofBits .bf16 0x0000#16)⟩] concatenates_S1x258x256_S16x258x256_S1x258x256_S18x258x256_d0

/-- Every row moved one to the right, a zero at its start. -/
def fromLeft (x : FVec F S18x258x256 .bf16) : FVec F S18x258x256 .bf16 :=
  concatenate S18x258x256 2 [⟨S18x258x1, broadcast S18x258x1 (Scalar.ofBits .bf16 0x0000#16)⟩,
    ⟨S18x258x255, extractStridedSlice S18x258x255 ![0, 0, 0] x slices_S18x258x256_o0_0_0_S18x258x255⟩] concatenates_S18x258x1_S18x258x255_S18x258x256_d2

/-- Every row moved one to the left, a zero at its end. -/
def fromRight (x : FVec F S18x258x256 .bf16) : FVec F S18x258x256 .bf16 :=
  concatenate S18x258x256 2 [⟨S18x258x255, extractStridedSlice S18x258x255 ![0, 0, 1] x slices_S18x258x256_o0_0_1_S18x258x255⟩,
    ⟨S18x258x1, broadcast S18x258x1 (Scalar.ofBits .bf16 0x0000#16)⟩] concatenates_S18x258x255_S18x258x1_S18x258x256_d2

/-- One product of a filter entry with the 16 channels from `0`, `1` or `2` on. -/
def tap0 (f : F .bf16) (x : FVec F S18x258x256 .bf16) : FVec F S16x258x256 .bf16 :=
  mulf (broadcast S16x258x256 f) (extractStridedSlice S16x258x256 ![0, 0, 0] x slices_S18x258x256_o0_0_0_S16x258x256)
@[inherit_doc tap0] def tap1 (f : F .bf16) (x : FVec F S18x258x256 .bf16) : FVec F S16x258x256 .bf16 :=
  mulf (broadcast S16x258x256 f) (extractStridedSlice S16x258x256 ![1, 0, 0] x slices_S18x258x256_o1_0_0_S16x258x256)
@[inherit_doc tap0] def tap2 (f : F .bf16) (x : FVec F S18x258x256 .bf16) : FVec F S16x258x256 .bf16 :=
  mulf (broadcast S16x258x256 f) (extractStridedSlice S16x258x256 ![2, 0, 0] x slices_S18x258x256_o2_0_0_S16x258x256)

/-- The nine products of one filter row, added from the left. -/
def nine (f0 f1 f2 f3 f4 f5 f6 f7 f8 : F .bf16) (x : FVec F S18x258x256 .bf16) : FVec F S16x258x256 .bf16 :=
  addf (addf (addf (addf (addf (addf (addf (addf (tap0 f0 (fromLeft x)) (tap0 f1 x)) (tap0 f2 (fromRight x)))
    (tap1 f3 (fromLeft x))) (tap1 f4 x)) (tap1 f5 (fromRight x)))
    (tap2 f6 (fromLeft x))) (tap2 f7 x)) (tap2 f8 (fromRight x))

/-- The 27 products of one bin: the three filter rows, each from its own image row. -/
def taps (f : Fin 27 → F .bf16) (x : FVec F S18x258x256 .bf16) : FVec F S16x256x256 .bf16 :=
  addf (addf
    (extractStridedSlice S16x256x256 ![0, 0, 0] (nine (f 0) (f 1) (f 2) (f 9) (f 10) (f 11) (f 18) (f 19) (f 20) x) slices_S16x258x256_o0_0_0_S16x256x256)
    (extractStridedSlice S16x256x256 ![0, 1, 0] (nine (f 3) (f 4) (f 5) (f 12) (f 13) (f 14) (f 21) (f 22) (f 23) x) slices_S16x258x256_o0_1_0_S16x256x256))
    (extractStridedSlice S16x256x256 ![0, 2, 0] (nine (f 6) (f 7) (f 8) (f 15) (f 16) (f 17) (f 24) (f 25) (f 26) x) slices_S16x258x256_o0_2_0_S16x256x256)

/-- Pick `c` where `b` is the bin that `w` spells, else `d`. -/
def pick (w : BitVec 16) (c : F .bf16) (b d : FVec F S16x256x256 .bf16) : FVec F S16x256x256 .bf16 :=
  select (cmpf .oeq b (broadcast S16x256x256 (Scalar.ofBits .bf16 w))) (broadcast S16x256x256 c) d

/-- The weight of one bin at every entry, by the entry's own bin `b`: zero outside the eight bins. -/
def weight (c0 c1 c2 c3 c4 c5 c6 c7 : F .bf16) (b : FVec F S16x256x256 .bf16) : FVec F S16x256x256 .bf16 :=
  pick 0x0000#16 c0 b (pick 0x3F80#16 c1 b (pick 0x4000#16 c2 b (pick 0x4040#16 c3 b (pick 0x4080#16 c4 b
    (pick 0x40A0#16 c5 b (pick 0x40C0#16 c6 b (pick 0x40E0#16 c7 b (broadcast S16x256x256 (Scalar.ofBits .bf16 0x0000#16)))))))))

/-- One bin's part of the output: its weight times its 27 products. -/
def part (p : CmpFPredicate) (w : BitVec 16) (c0 c1 c2 c3 c4 c5 c6 c7 : F .bf16) (f : Fin 27 → F .bf16)
    (b x : FVec F S16x258x256 .bf16) : FVec F S16x256x256 .bf16 :=
  mulf (weight c0 c1 c2 c3 c4 c5 c6 c7 (inner b)) (taps f (padChans (keep p w b x)))

/-- The eight bins' parts added from the left, over the weights `c`, the filter `f`, the bins `b` and the entries `x`. -/
def mix (c : Fin 64 → F .bf16) (f : Fin 27 → F .bf16) (b x : FVec F S16x258x256 .bf16) : FVec F S16x256x256 .bf16 :=
  addf (addf (addf (addf (addf (addf (addf
    (part .oeq 0x0000#16 (c 0) (c 8) (c 16) (c 24) (c 32) (c 40) (c 48) (c 56) f b x)
    (part .oeq 0x3F80#16 (c 1) (c 9) (c 17) (c 25) (c 33) (c 41) (c 49) (c 57) f b x))
    (part .oeq 0x4000#16 (c 2) (c 10) (c 18) (c 26) (c 34) (c 42) (c 50) (c 58) f b x))
    (part .oeq 0x4040#16 (c 3) (c 11) (c 19) (c 27) (c 35) (c 43) (c 51) (c 59) f b x))
    (part .oeq 0x4080#16 (c 4) (c 12) (c 20) (c 28) (c 36) (c 44) (c 52) (c 60) f b x))
    (part .oeq 0x40A0#16 (c 5) (c 13) (c 21) (c 29) (c 37) (c 45) (c 53) (c 61) f b x))
    (part .oeq 0x40C0#16 (c 6) (c 14) (c 22) (c 30) (c 38) (c 46) (c 54) (c 62) f b x))
    (part .oge 0x40E0#16 (c 7) (c 15) (c 23) (c 31) (c 39) (c 47) (c 55) (c 63) f b x)

/-- The output block, from the weights and filter entries read one by one, the least and greatest entry, and the block. -/
def outBlock (c : Fin 64 → F .f32) (f : Fin 27 → F .f32) (lo hi : F .f32) (v : Vec F S1x16x256x256 .f32) : Vec F S1x16x256x256 .f32 :=
  shapeCast S1x16x256x256 (extf .f32 (mix (fun k => Scalar.truncf .bf16 bitsLt_bf16_f32 (c k))
    (fun k => Scalar.truncf .bf16 bitsLt_bf16_f32 (f k)) (truncf .bf16 (bins lo hi (padRows v)) bitsLt_bf16_f32)
    (truncf .bf16 (padRows v) bitsLt_bf16_f32)) bitsLt_bf16_f32) shapeCasts_S16x256x256_S1x16x256x256

/-- The block of bins, as integers. -/
def idxBlock (lo hi : F .f32) (v : Vec F S1x16x256x256 .f32) : Vec F S1x16x256x256 .i32 :=
  shapeCast S1x16x256x256 (fptosi 32 (extractStridedSlice S16x256x256 ![0, 1, 0] (bins lo hi (padRows v)) slices_S16x258x256_o0_1_0_S16x256x256))
    shapeCasts_S16x256x256_S1x16x256x256

theorem h1 : 0 < S1.numel := by decide
theorem inb64 (k : Fin 64) : ∀ a, (![k.val] : Fin 1 → Nat) a + S1.size a ≤ S64.size a := by
  intro a; match a with | ⟨0, _⟩ => exact k.isLt
theorem inb27 (k : Fin 27) : ∀ a, (![k.val] : Fin 1 → Nat) a + S1.size a ≤ S27.size a := by
  intro a; match a with | ⟨0, _⟩ => exact k.isLt

section Run
variable (c : Dev nD) (i : grid1.Coords) (arg1 : Memref sig .tc .smem S64 .f32) (harg1 : arg1.IsWhole) (arg2 : Memref sig .tc .smem S27 .f32) (harg2 : arg2.IsWhole) (arg3 : Memref sig .tc .vmem S8x1x128 .f32) (harg3 : arg3.IsWhole) (arg4 : Memref sig .tc .vmem S8x1x128 .f32) (harg4 : arg4.IsWhole) (arg5 : Memref sig .tc .vmem S1x16x256x256 .f32) (harg5 : arg5.IsWhole) (arg6 : Memref sig .tc .vmem S1x16x256x256 .f32) (harg6 : arg6.IsWhole) (arg7 : Memref sig .tc .vmem S1x16x256x256 .i32) (harg7 : arg7.IsWhole)
    (x0 : Vec F S64 .f32) (x1 : Vec F S27 .f32) (x2 : Vec F S8x1x128 .f32) (x3 : Vec F S8x1x128 .f32) (x4 : Vec F S1x16x256x256 .f32)

/-- The weights, the filter, the two arrays of extremes and the block as the body loads them from its staging buffers. -/
def ldC (k : Fin 64) : F .f32 :=
  View.readAt (Elt F) arg1.view (Rect.unit (s := S64) ![k.val] S1.size (inb64 k)).toLoadRect (harg1.unread x0) (Shape.Idx.first h1)
@[inherit_doc ldC] def ldF (k : Fin 27) : F .f32 :=
  View.readAt (Elt F) arg2.view (Rect.unit (s := S27) ![k.val] S1.size (inb27 k)).toLoadRect (harg2.unread x1) (Shape.Idx.first h1)
@[inherit_doc ldC] def ldE (arg : Memref sig .tc .vmem S8x1x128 .f32) (harg : arg.IsWhole) (x : Vec F S8x1x128 .f32) : Vec F S8x1x128 .f32 :=
  View.readAt (Elt F) arg.view (Rect.unit (s := S8x1x128) ![0, 0, 0] S8x1x128.size inb_S8x1x128_S8x1x128_0_0_0).toLoadRect (harg.unread x)
@[inherit_doc ldC] def ldX : Vec F S1x16x256x256 .f32 :=
  View.readAt (Elt F) arg5.view (Rect.unit (s := S1x16x256x256) ![0, 0, 0, 0] ![1, 16, 256, 256] inb_S1x16x256x256_S1x16x256x256_0_0_0_0).toLoadRect (harg5.unread x4)

/-- The body's one store into the output window is `outBlock` of what it loads. -/
theorem pieces_out : (kernelRun1_A c i arg1 harg1 arg2 harg2 arg3 harg3 arg4 harg4 arg5 harg5 arg6 harg6 arg7 harg7 x0 x1 x2 x3 x4).1
    = [⟨Rect.unit ![0, 0, 0, 0] ![1, 16, 256, 256] inb_S1x16x256x256_S1x16x256x256_0_0_0_0,
        outBlock (ldC arg1 harg1 x0) (ldF arg2 harg2 x1) (k1_pay2 (ldE arg3 harg3 x2)) (k1_pay3 (ldE arg4 harg4 x3)) (ldX arg5 harg5 x4)⟩] := by
  sl_kernel_rfl

/-- Its one store into the index window is `idxBlock`. -/
theorem pieces_idx : (kernelRun1_A c i arg1 harg1 arg2 harg2 arg3 harg3 arg4 harg4 arg5 harg5 arg6 harg6 arg7 harg7 x0 x1 x2 x3 x4).2.1
    = [⟨Rect.unit ![0, 0, 0, 0] ![1, 16, 256, 256] inb_S1x16x256x256_S1x16x256x256_0_0_0_0,
        idxBlock (k1_pay2 (ldE arg3 harg3 x2)) (k1_pay3 (ldE arg4 harg4 x3)) (ldX arg5 harg5 x4)⟩] := by
  sl_kernel_rfl
end Run

end Cert.KernelIdeal.Val

end
-- ==== Proof.Regions.lean ====
/- What the two calls leave in their result arrays: every point writes its own image's block, the blocks cover the arrays. -/
module

public import proofs.«01_k».proof.Proof.Struct
public import proofs.«01_k».proof.Proof.Gen.KernelIdeal.Frame
public import Idealize.ShloMosaic.Lib.Pipeline.Value
public import Idealize.ShloMosaic.Lib.Pointwise
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]
variable (V : (c : Dev nD) → (b : Ref sig .tc) → Buf (Elt F) ((c : Thread nD τ).loc b))

theorem hz3 : (![0, 0, 0] : Fin 3 → ℕ) = fun _ => 0 := by decide
theorem hz4 : (![0, 0, 0, 0] : Fin 4 → ℕ) = fun _ => 0 := by decide
theorem N0 : grid0.N = 8 := by decide +kernel
theorem N1 : grid1.N = 8 := by decide +kernel

/-- A point of a grid of eight, as an image's number. -/
abbrev pt0 (t : Fin cfg0.N) : Fin 8 := ⟨t.val, lt_of_lt_of_eq t.isLt N0⟩
@[inherit_doc pt0] abbrev pt1 (t : Fin cfg1.N) : Fin 8 := ⟨t.val, lt_of_lt_of_eq t.isLt N1⟩

/-- Image `n` of the input, as a block. -/
def image (x : Vec F S8x16x256x256 .f32) (n : Fin 8) : Vec F S1x16x256x256 .f32 := fun j =>
  x (ix4 n (⟨(j 1).val, (j 1).isLt⟩ : Fin 16) (⟨(j 2).val, (j 2).isLt⟩ : Fin 256) (⟨(j 3).val, (j 3).isLt⟩ : Fin 256))

/-! ## The first call -/

theorem at0_0 : ∀ t : Fin grid0.N, win0_0.index t 0 * win0_0.size 0 = t.val ∧ win0_0.index t 1 * win0_0.size 1 = 0 ∧ win0_0.index t 2 * win0_0.size 2 = 0 ∧ win0_0.index t 3 * win0_0.size 3 = 0 ∧ win0_0.xsize (grid0.coords t) 0 = 1 ∧ win0_0.xsize (grid0.coords t) 1 = 16 ∧ win0_0.xsize (grid0.coords t) 2 = 256 ∧ win0_0.xsize (grid0.coords t) 3 = 256 := by decide +kernel
theorem at0_1 : ∀ t : Fin grid0.N, win0_1.index t 0 * win0_1.size 0 = t.val ∧ win0_1.index t 1 * win0_1.size 1 = 0 ∧ win0_1.index t 2 * win0_1.size 2 = 0 ∧ win0_1.xsize (grid0.coords t) 0 = 1 ∧ win0_1.xsize (grid0.coords t) 1 = 1 ∧ win0_1.xsize (grid0.coords t) 2 = 128 := by decide +kernel
theorem at0_2 : ∀ t : Fin grid0.N, win0_2.index t 0 * win0_2.size 0 = t.val ∧ win0_2.index t 1 * win0_2.size 1 = 0 ∧ win0_2.index t 2 * win0_2.size 2 = 0 ∧ win0_2.xsize (grid0.coords t) 0 = 1 ∧ win0_2.xsize (grid0.coords t) 1 = 1 ∧ win0_2.xsize (grid0.coords t) 2 = 128 := at0_1

/-- At point `t` the first call reads image `t`. -/
theorem iblk0_0 (c : Dev nD) (t : Fin cfg0.N) : iblk0 V c 0 t = image (V c main_arg0) (pt0 t) := by
  obtain ⟨e0, e1, e2, e3, s0, s1, s2, s3⟩ := at0_0 t
  funext y
  unfold iblk0
  show V c main_arg0 (((View.whole main_arg0).slice (win0_0.rect t)).emb y) = V c main_arg0 _
  refine congrArg (V c main_arg0) (funext fun a => Fin.ext ?_)
  have hy : (y 0).val < 1 := (y 0).isLt
  match a with
  | ⟨0, _⟩ =>
    show win0_0.index t 0 * win0_0.size 0 + 1 * (y 0).val = t.val
    omega
  | ⟨1, _⟩ =>
    show win0_0.index t 1 * win0_0.size 1 + 1 * (y 1).val = (y 1).val
    omega
  | ⟨2, _⟩ =>
    show win0_0.index t 2 * win0_0.size 2 + 1 * (y 2).val = (y 2).val
    omega
  | ⟨3, _⟩ =>
    show win0_0.index t 3 * win0_0.size 3 + 1 * (y 3).val = (y 3).val
    omega

/-- Per image its least entry, 128 times. -/
def leasts (x : Vec F S8x16x256x256 .f32) : Vec F S8x1x128 .f32 := fun i =>
  k0_pay2 (image x (⟨(i 0).val, (i 0).isLt⟩ : Fin 8)) (ix3 0 0 (⟨(i 2).val, (i 2).isLt⟩ : Fin 128))
/-- Per image its greatest entry, 128 times. -/
def greatests (x : Vec F S8x16x256x256 .f32) : Vec F S8x1x128 .f32 := fun i =>
  k0_pay3 (image x (⟨(i 0).val, (i 0).isLt⟩ : Fin 8)) (ix3 0 0 (⟨(i 2).val, (i 2).isLt⟩ : Fin 128))

theorem row_eq (y : S1x1x128.Idx) (j : Fin 128) (h : (y 2).val = j.val) : y = ix3 0 0 j := by
  have h0 : (y 0).val < 1 := (y 0).isLt
  have h1 : (y 1).val < 1 := (y 1).isLt
  funext a
  refine Fin.ext ?_
  match a with
  | ⟨0, _⟩ => show (y 0).val = 0; omega
  | ⟨1, _⟩ => show (y 1).val = 0; omega
  | ⟨2, _⟩ => exact h

theorem leasts_at (x : Vec F S8x16x256x256 .f32) (i : S8x1x128.Idx) (n : Fin 8) (j : Fin 128) (h0 : (i 0).val = n.val) (h2 : (i 2).val = j.val) :
    leasts x i = k0_pay2 (image x n) (ix3 0 0 j) := by
  have e0 : (⟨(i 0).val, (i 0).isLt⟩ : Fin 8) = n := Fin.ext h0
  have e2 : (⟨(i 2).val, (i 2).isLt⟩ : Fin 128) = j := Fin.ext h2
  unfold leasts
  rw [e0, e2]

theorem flushed0_1 (c : Dev nD) (t : Fin cfg0.N) :
    (dat0 V c).flushed 1 t = ((cfg0.win 1).blk t).view.read (Elt F) (leasts (V c main_arg0)) := by
  show (cfg0.win 1).cut (grid0.coords t) ((dat0 V c).after 1 t) = _
  rw [after0_1]
  unfold out0_1
  rw [View.canon_unit_zero hz3, View.ld_unit_zero hz4, iblk0_0]
  obtain ⟨e0, e1, e2, s0, s1, s2⟩ := at0_1 t
  funext y
  have hy : (y 0).val < 1 := (y 0).isLt
  show k0_pay2 _ y = leasts (V c main_arg0) (((View.whole main_v0_0).slice (win0_1.rect t)).emb y)
  rw [leasts_at (V c main_arg0) _ (pt0 t) (⟨(y 2).val, (y 2).isLt⟩ : Fin 128)
    (by show win0_1.index t 0 * win0_1.size 0 + 1 * (y 0).val = t.val; omega)
    (by show win0_1.index t 2 * win0_1.size 2 + 1 * (y 2).val = (y 2).val; omega)]
  exact congrArg (k0_pay2 _) (row_eq y (⟨(y 2).val, (y 2).isLt⟩ : Fin 128) rfl)

theorem mem0_1 (t : Fin cfg0.N) (i : S8x1x128.Idx) : i ∈ ((cfg0.win 1).blk t).view.set ↔ (i 0 : Nat) = t.val := by
  show i ∈ ((View.whole main_v0_0).slice (win0_1.rect t)).set ↔ _
  rw [View.set_slice_whole, Rect.mem_set_unit]
  obtain ⟨e0, e1, e2, s0, s1, s2⟩ := at0_1 t
  have h1 : (i 1 : Nat) < 1 := (i 1).isLt
  have h2 : (i 2 : Nat) < 128 := (i 2).isLt
  refine ⟨fun h => ?_, fun h a => ?_⟩
  · have : win0_1.index t 0 * win0_1.size 0 ≤ (i 0 : Nat) ∧ (i 0 : Nat) < win0_1.index t 0 * win0_1.size 0 + win0_1.xsize (grid0.coords t) 0 := h 0
    omega
  · match a with
    | ⟨0, _⟩ =>
      show win0_1.index t 0 * win0_1.size 0 ≤ (i 0 : Nat) ∧ (i 0 : Nat) < win0_1.index t 0 * win0_1.size 0 + win0_1.xsize (grid0.coords t) 0
      omega
    | ⟨1, _⟩ =>
      show win0_1.index t 1 * win0_1.size 1 ≤ (i 1 : Nat) ∧ (i 1 : Nat) < win0_1.index t 1 * win0_1.size 1 + win0_1.xsize (grid0.coords t) 1
      omega
    | ⟨2, _⟩ =>
      show win0_1.index t 2 * win0_1.size 2 ≤ (i 2 : Nat) ∧ (i 2 : Nat) < win0_1.index t 2 * win0_1.size 2 + win0_1.xsize (grid0.coords t) 2
      omega

/-- What the first call leaves in its result 1 of 2. -/
theorem final0_1 (c : Dev nD) : (dat0 V c).arrAt 1 cfg0.N = leasts (V c main_arg0) :=
  (dat0 V c).arrAt_eq_of_cover 1 (leasts (V c main_arg0)) (fun t _ => flushed0_1 V c t) fun i => by
    have h : (i 0).val < 8 := (i 0).isLt
    exact ⟨⟨(i 0).val, lt_of_lt_of_eq h N0.symm⟩, flush0_1 _, (mem0_1 _ i).mpr rfl⟩

theorem greatests_at (x : Vec F S8x16x256x256 .f32) (i : S8x1x128.Idx) (n : Fin 8) (j : Fin 128) (h0 : (i 0).val = n.val) (h2 : (i 2).val = j.val) :
    greatests x i = k0_pay3 (image x n) (ix3 0 0 j) := by
  have e0 : (⟨(i 0).val, (i 0).isLt⟩ : Fin 8) = n := Fin.ext h0
  have e2 : (⟨(i 2).val, (i 2).isLt⟩ : Fin 128) = j := Fin.ext h2
  unfold greatests
  rw [e0, e2]

theorem flushed0_2 (c : Dev nD) (t : Fin cfg0.N) :
    (dat0 V c).flushed 2 t = ((cfg0.win 2).blk t).view.read (Elt F) (greatests (V c main_arg0)) := by
  show (cfg0.win 2).cut (grid0.coords t) ((dat0 V c).after 2 t) = _
  rw [after0_2]
  unfold out0_2
  rw [View.canon_unit_zero hz3, View.ld_unit_zero hz4, iblk0_0]
  obtain ⟨e0, e1, e2, s0, s1, s2⟩ := at0_2 t
  funext y
  have hy : (y 0).val < 1 := (y 0).isLt
  show k0_pay3 _ y = greatests (V c main_arg0) (((View.whole main_v0_1).slice (win0_2.rect t)).emb y)
  rw [greatests_at (V c main_arg0) _ (pt0 t) (⟨(y 2).val, (y 2).isLt⟩ : Fin 128)
    (by show win0_2.index t 0 * win0_2.size 0 + 1 * (y 0).val = t.val; omega)
    (by show win0_2.index t 2 * win0_2.size 2 + 1 * (y 2).val = (y 2).val; omega)]
  exact congrArg (k0_pay3 _) (row_eq y (⟨(y 2).val, (y 2).isLt⟩ : Fin 128) rfl)

theorem mem0_2 (t : Fin cfg0.N) (i : S8x1x128.Idx) : i ∈ ((cfg0.win 2).blk t).view.set ↔ (i 0 : Nat) = t.val := mem0_1 t i

/-- What the first call leaves in its result 2 of 2. -/
theorem final0_2 (c : Dev nD) : (dat0 V c).arrAt 2 cfg0.N = greatests (V c main_arg0) :=
  (dat0 V c).arrAt_eq_of_cover 2 (greatests (V c main_arg0)) (fun t _ => flushed0_2 V c t) fun i => by
    have h : (i 0).val < 8 := (i 0).isLt
    exact ⟨⟨(i 0).val, lt_of_lt_of_eq h N0.symm⟩, flush0_2 _, (mem0_2 _ i).mpr rfl⟩

/-! ## The second call -/

theorem at1_0 : ∀ t : Fin grid1.N, win1_0.index t 0 * win1_0.size 0 = 0 ∧ win1_0.xsize (grid1.coords t) 0 = 64 := by decide +kernel
theorem at1_1 : ∀ t : Fin grid1.N, win1_1.index t 0 * win1_1.size 0 = 0 ∧ win1_1.xsize (grid1.coords t) 0 = 27 := by decide +kernel
theorem at1_2 : ∀ t : Fin grid1.N, win1_2.index t 0 * win1_2.size 0 = 0 ∧ win1_2.index t 1 * win1_2.size 1 = 0 ∧ win1_2.index t 2 * win1_2.size 2 = 0 ∧ win1_2.xsize (grid1.coords t) 0 = 8 ∧ win1_2.xsize (grid1.coords t) 1 = 1 ∧ win1_2.xsize (grid1.coords t) 2 = 128 := by decide +kernel
theorem at1_3 : ∀ t : Fin grid1.N, win1_3.index t 0 * win1_3.size 0 = 0 ∧ win1_3.index t 1 * win1_3.size 1 = 0 ∧ win1_3.index t 2 * win1_3.size 2 = 0 ∧ win1_3.xsize (grid1.coords t) 0 = 8 ∧ win1_3.xsize (grid1.coords t) 1 = 1 ∧ win1_3.xsize (grid1.coords t) 2 = 128 := at1_2
theorem at1_4 : ∀ t : Fin grid1.N, win1_4.index t 0 * win1_4.size 0 = t.val ∧ win1_4.index t 1 * win1_4.size 1 = 0 ∧ win1_4.index t 2 * win1_4.size 2 = 0 ∧ win1_4.index t 3 * win1_4.size 3 = 0 ∧ win1_4.xsize (grid1.coords t) 0 = 1 ∧ win1_4.xsize (grid1.coords t) 1 = 16 ∧ win1_4.xsize (grid1.coords t) 2 = 256 ∧ win1_4.xsize (grid1.coords t) 3 = 256 := by decide +kernel
theorem at1_5 : ∀ t : Fin grid1.N, win1_5.index t 0 * win1_5.size 0 = t.val ∧ win1_5.index t 1 * win1_5.size 1 = 0 ∧ win1_5.index t 2 * win1_5.size 2 = 0 ∧ win1_5.index t 3 * win1_5.size 3 = 0 ∧ win1_5.xsize (grid1.coords t) 0 = 1 ∧ win1_5.xsize (grid1.coords t) 1 = 16 ∧ win1_5.xsize (grid1.coords t) 2 = 256 ∧ win1_5.xsize (grid1.coords t) 3 = 256 := by decide +kernel
theorem at1_6 : ∀ t : Fin grid1.N, win1_6.index t 0 * win1_6.size 0 = t.val ∧ win1_6.index t 1 * win1_6.size 1 = 0 ∧ win1_6.index t 2 * win1_6.size 2 = 0 ∧ win1_6.index t 3 * win1_6.size 3 = 0 ∧ win1_6.xsize (grid1.coords t) 0 = 1 ∧ win1_6.xsize (grid1.coords t) 1 = 16 ∧ win1_6.xsize (grid1.coords t) 2 = 256 ∧ win1_6.xsize (grid1.coords t) 3 = 256 := at1_5

theorem iblk1_0 (c : Dev nD) (t : Fin cfg1.N) : iblk1 V c 0 t = V c main_v1 := by
  obtain ⟨e0, s0⟩ := at1_0 t
  funext y
  unfold iblk1
  show V c main_v1 (((View.whole main_v1).slice (win1_0.rect t)).emb y) = V c main_v1 y
  refine congrArg (V c main_v1) (funext fun a => Fin.ext ?_)
  match a with
  | ⟨0, _⟩ =>
    show win1_0.index t 0 * win1_0.size 0 + 1 * (y 0).val = (y 0).val
    omega

theorem iblk1_1 (c : Dev nD) (t : Fin cfg1.N) : iblk1 V c 1 t = V c main_v2 := by
  obtain ⟨e0, s0⟩ := at1_1 t
  funext y
  unfold iblk1
  show V c main_v2 (((View.whole main_v2).slice (win1_1.rect t)).emb y) = V c main_v2 y
  refine congrArg (V c main_v2) (funext fun a => Fin.ext ?_)
  match a with
  | ⟨0, _⟩ =>
    show win1_1.index t 0 * win1_1.size 0 + 1 * (y 0).val = (y 0).val
    omega

theorem iblk1_2 (c : Dev nD) (t : Fin cfg1.N) : iblk1 V c 2 t = V c main_v0_0 := by
  obtain ⟨e0, e1, e2, s0, s1, s2⟩ := at1_2 t
  funext y
  unfold iblk1
  show V c main_v0_0 (((View.whole main_v0_0).slice (win1_2.rect t)).emb y) = V c main_v0_0 y
  refine congrArg (V c main_v0_0) (funext fun a => Fin.ext ?_)
  match a with
  | ⟨0, _⟩ =>
    show win1_2.index t 0 * win1_2.size 0 + 1 * (y 0).val = (y 0).val
    omega
  | ⟨1, _⟩ =>
    show win1_2.index t 1 * win1_2.size 1 + 1 * (y 1).val = (y 1).val
    omega
  | ⟨2, _⟩ =>
    show win1_2.index t 2 * win1_2.size 2 + 1 * (y 2).val = (y 2).val
    omega

theorem iblk1_3 (c : Dev nD) (t : Fin cfg1.N) : iblk1 V c 3 t = V c main_v0_1 := by
  obtain ⟨e0, e1, e2, s0, s1, s2⟩ := at1_3 t
  funext y
  unfold iblk1
  show V c main_v0_1 (((View.whole main_v0_1).slice (win1_3.rect t)).emb y) = V c main_v0_1 y
  refine congrArg (V c main_v0_1) (funext fun a => Fin.ext ?_)
  match a with
  | ⟨0, _⟩ =>
    show win1_3.index t 0 * win1_3.size 0 + 1 * (y 0).val = (y 0).val
    omega
  | ⟨1, _⟩ =>
    show win1_3.index t 1 * win1_3.size 1 + 1 * (y 1).val = (y 1).val
    omega
  | ⟨2, _⟩ =>
    show win1_3.index t 2 * win1_3.size 2 + 1 * (y 2).val = (y 2).val
    omega

/-- At point `t` the second call reads image `t`. -/
theorem iblk1_4 (c : Dev nD) (t : Fin cfg1.N) : iblk1 V c 4 t = image (V c main_arg0) (pt1 t) := by
  obtain ⟨e0, e1, e2, e3, s0, s1, s2, s3⟩ := at1_4 t
  funext y
  unfold iblk1
  show V c main_arg0 (((View.whole main_arg0).slice (win1_4.rect t)).emb y) = V c main_arg0 _
  refine congrArg (V c main_arg0) (funext fun a => Fin.ext ?_)
  have hy : (y 0).val < 1 := (y 0).isLt
  match a with
  | ⟨0, _⟩ =>
    show win1_4.index t 0 * win1_4.size 0 + 1 * (y 0).val = t.val
    omega
  | ⟨1, _⟩ =>
    show win1_4.index t 1 * win1_4.size 1 + 1 * (y 1).val = (y 1).val
    omega
  | ⟨2, _⟩ =>
    show win1_4.index t 2 * win1_4.size 2 + 1 * (y 2).val = (y 2).val
    omega
  | ⟨3, _⟩ =>
    show win1_4.index t 3 * win1_4.size 3 + 1 * (y 3).val = (y 3).val
    omega

section Loads
variable (arg1 : Memref sig .tc .smem S64 .f32) (harg1 : arg1.IsWhole) (arg2 : Memref sig .tc .smem S27 .f32) (harg2 : arg2.IsWhole)
    (arg3 : Memref sig .tc .vmem S8x1x128 .f32) (harg3 : arg3.IsWhole) (arg5 : Memref sig .tc .vmem S1x16x256x256 .f32) (harg5 : arg5.IsWhole)

theorem ldC_eq (x : Vec F S64 .f32) : ldC arg1 harg1 x = fun k => x (ix1 k) := by
  funext k
  unfold ldC
  rw [View.readAt_apply, harg1.read_unread]
  refine congrArg x (funext fun a => Fin.ext ?_)
  match a with
  | ⟨0, _⟩ => rfl
theorem ldF_eq (x : Vec F S27 .f32) : ldF arg2 harg2 x = fun k => x (ix1 k) := by
  funext k
  unfold ldF
  rw [View.readAt_apply, harg2.read_unread]
  refine congrArg x (funext fun a => Fin.ext ?_)
  match a with
  | ⟨0, _⟩ => rfl
theorem ldE_eq (x : Vec F S8x1x128 .f32) : ldE arg3 harg3 x = x := by
  unfold ldE
  exact (View.readAt_full arg3.view _ _).trans (harg3.read_unread x)
theorem ldX_eq (x : Vec F S1x16x256x256 .f32) : ldX arg5 harg5 x = x := by
  unfold ldX
  exact (View.readAt_full arg5.view _ _).trans (harg5.read_unread x)
end Loads

theorem blk_eq (y : S1x16x256x256.Idx) (a : Fin 16) (h w : Fin 256) (h1 : (y 1).val = a.val) (h2 : (y 2).val = h.val) (h3 : (y 3).val = w.val) :
    y = ix4 0 a h w := by
  have h0 : (y 0).val < 1 := (y 0).isLt
  funext b
  refine Fin.ext ?_
  match b with
  | ⟨0, _⟩ => show (y 0).val = 0; omega
  | ⟨1, _⟩ => exact h1
  | ⟨2, _⟩ => exact h2
  | ⟨3, _⟩ => exact h3

/-- Blocks laid side by side: position `(n, a, h, w)` is position `(a, h, w)` of block `n`. -/
def laid {e : EltTy} (B : Fin 8 → Vec F S1x16x256x256 e) : Vec F S8x16x256x256 e := fun i =>
  B (⟨(i 0).val, (i 0).isLt⟩ : Fin 8) (ix4 0 (⟨(i 1).val, (i 1).isLt⟩ : Fin 16) (⟨(i 2).val, (i 2).isLt⟩ : Fin 256) (⟨(i 3).val, (i 3).isLt⟩ : Fin 256))

theorem laid_at {e : EltTy} (B : Fin 8 → Vec F S1x16x256x256 e) (i : S8x16x256x256.Idx) (n : Fin 8) (a : Fin 16) (h w : Fin 256)
    (h0 : (i 0).val = n.val) (h1 : (i 1).val = a.val) (h2 : (i 2).val = h.val) (h3 : (i 3).val = w.val) : laid B i = B n (ix4 0 a h w) := by
  have e0 : (⟨(i 0).val, (i 0).isLt⟩ : Fin 8) = n := Fin.ext h0
  have e1 : (⟨(i 1).val, (i 1).isLt⟩ : Fin 16) = a := Fin.ext h1
  have e2 : (⟨(i 2).val, (i 2).isLt⟩ : Fin 256) = h := Fin.ext h2
  have e3 : (⟨(i 3).val, (i 3).isLt⟩ : Fin 256) = w := Fin.ext h3
  unfold laid
  rw [e0, e1, e2, e3]

/-- The second call's block of values for image `n`, of the arrays it is given. -/
def valBlock (C : Vec F S64 .f32) (f : Vec F S27 .f32) (E0 E1 : Vec F S8x1x128 .f32) (x : Vec F S8x16x256x256 .f32) (n : Fin 8) : Vec F S1x16x256x256 .f32 :=
  outBlock (fun k => C (ix1 k)) (fun k => f (ix1 k)) (k1_pay2 E0) (k1_pay3 E1) (image x n)
/-- The second call's block of bins for image `n`. -/
def binBlock (E0 E1 : Vec F S8x1x128 .f32) (x : Vec F S8x16x256x256 .f32) (n : Fin 8) : Vec F S1x16x256x256 .i32 :=
  idxBlock (k1_pay2 E0) (k1_pay3 E1) (image x n)

section Body
variable (c : Dev nD) (i : grid1.Coords) (arg1 : Memref sig .tc .smem S64 .f32) (harg1 : arg1.IsWhole) (arg2 : Memref sig .tc .smem S27 .f32) (harg2 : arg2.IsWhole) (arg3 : Memref sig .tc .vmem S8x1x128 .f32) (harg3 : arg3.IsWhole) (arg4 : Memref sig .tc .vmem S8x1x128 .f32) (harg4 : arg4.IsWhole) (arg5 : Memref sig .tc .vmem S1x16x256x256 .f32) (harg5 : arg5.IsWhole) (arg6 : Memref sig .tc .vmem S1x16x256x256 .f32) (harg6 : arg6.IsWhole) (arg7 : Memref sig .tc .vmem S1x16x256x256 .i32) (harg7 : arg7.IsWhole)
    (x0 : Vec F S64 .f32) (x1 : Vec F S27 .f32) (x2 : Vec F S8x1x128 .f32) (x3 : Vec F S8x1x128 .f32) (x4 : Vec F S1x16x256x256 .f32)

theorem left_out : out1_A_5 c i arg1 harg1 arg2 harg2 arg3 harg3 arg4 harg4 arg5 harg5 arg6 harg6 arg7 harg7 x0 x1 x2 x3 x4
    = outBlock (fun k => x0 (ix1 k)) (fun k => x1 (ix1 k)) (k1_pay2 x2) (k1_pay3 x3) x4 := by
  unfold out1_A_5
  rw [View.read_writes_eq_canon _ _ _ (cover1_A_5 c i arg1 harg1 arg2 harg2 arg3 harg3 arg4 harg4 arg5 harg5 arg6 harg6 arg7 harg7 x0 x1 x2 x3 x4), pieces_out, View.canon_unit_zero hz4,
    ldC_eq, ldF_eq, ldE_eq, ldE_eq, ldX_eq]

theorem left_idx : out1_A_6 c i arg1 harg1 arg2 harg2 arg3 harg3 arg4 harg4 arg5 harg5 arg6 harg6 arg7 harg7 x0 x1 x2 x3 x4
    = idxBlock (k1_pay2 x2) (k1_pay3 x3) x4 := by
  unfold out1_A_6
  rw [View.read_writes_eq_canon _ _ _ (cover1_A_6 c i arg1 harg1 arg2 harg2 arg3 harg3 arg4 harg4 arg5 harg5 arg6 harg6 arg7 harg7 x0 x1 x2 x3 x4), pieces_idx, View.canon_unit_zero hz4,
    ldE_eq, ldE_eq, ldX_eq]
end Body

theorem outs_out (c : Dev nD) (t : Fin cfg1.N) :
    (outsAt1 V c t).1 = valBlock (V c main_v1) (V c main_v2) (V c main_v0_0) (V c main_v0_1) (V c main_arg0) (pt1 t) := by
  unfold outsAt1
  dsimp only
  rw [left_out, iblk1_0, iblk1_1, iblk1_2, iblk1_3, iblk1_4]
  unfold valBlock
  rfl

theorem outs_idx (c : Dev nD) (t : Fin cfg1.N) :
    (outsAt1 V c t).2 = binBlock (V c main_v0_0) (V c main_v0_1) (V c main_arg0) (pt1 t) := by
  unfold outsAt1
  dsimp only
  rw [left_idx, iblk1_2, iblk1_3, iblk1_4]
  unfold binBlock
  rfl

theorem flushed1_5 (c : Dev nD) (t : Fin cfg1.N) :
    (dat1 V c).flushed 5 t = ((cfg1.win 5).blk t).view.read (Elt F) (laid (valBlock (V c main_v1) (V c main_v2) (V c main_v0_0) (V c main_v0_1) (V c main_arg0))) := by
  show (cfg1.win 5).cut (grid1.coords t) ((dat1 V c).after 5 t) = _
  rw [after1_5, outs_out]
  obtain ⟨e0, e1, e2, e3, s0, s1, s2, s3⟩ := at1_5 t
  funext y
  have hy : (y 0).val < 1 := (y 0).isLt
  rw [View.read_apply]
  rw [laid_at _ _ (pt1 t) (⟨(y 1).val, (y 1).isLt⟩ : Fin 16) (⟨(y 2).val, (y 2).isLt⟩ : Fin 256) (⟨(y 3).val, (y 3).isLt⟩ : Fin 256)
    (by show win1_5.index t 0 * win1_5.size 0 + 1 * (y 0).val = t.val; omega)
    (by show win1_5.index t 1 * win1_5.size 1 + 1 * (y 1).val = (y 1).val; omega)
    (by show win1_5.index t 2 * win1_5.size 2 + 1 * (y 2).val = (y 2).val; omega)
    (by show win1_5.index t 3 * win1_5.size 3 + 1 * (y 3).val = (y 3).val; omega)]
  exact congrArg ((valBlock _ _ _ _ _ (pt1 t))) (blk_eq y _ _ _ rfl rfl rfl)

theorem mem1_5 (t : Fin cfg1.N) (i : S8x16x256x256.Idx) : i ∈ ((cfg1.win 5).blk t).view.set ↔ (i 0 : Nat) = t.val := by
  show i ∈ ((View.whole main_v3_0).slice (win1_5.rect t)).set ↔ _
  rw [View.set_slice_whole, Rect.mem_set_unit]
  obtain ⟨e0, e1, e2, e3, s0, s1, s2, s3⟩ := at1_5 t
  have h1 : (i 1 : Nat) < 16 := (i 1).isLt
  have h2 : (i 2 : Nat) < 256 := (i 2).isLt
  have h3 : (i 3 : Nat) < 256 := (i 3).isLt
  refine ⟨fun h => ?_, fun h a => ?_⟩
  · have : win1_5.index t 0 * win1_5.size 0 ≤ (i 0 : Nat) ∧ (i 0 : Nat) < win1_5.index t 0 * win1_5.size 0 + win1_5.xsize (grid1.coords t) 0 := h 0
    omega
  · match a with
    | ⟨0, _⟩ =>
      show win1_5.index t 0 * win1_5.size 0 ≤ (i 0 : Nat) ∧ (i 0 : Nat) < win1_5.index t 0 * win1_5.size 0 + win1_5.xsize (grid1.coords t) 0
      omega
    | ⟨1, _⟩ =>
      show win1_5.index t 1 * win1_5.size 1 ≤ (i 1 : Nat) ∧ (i 1 : Nat) < win1_5.index t 1 * win1_5.size 1 + win1_5.xsize (grid1.coords t) 1
      omega
    | ⟨2, _⟩ =>
      show win1_5.index t 2 * win1_5.size 2 ≤ (i 2 : Nat) ∧ (i 2 : Nat) < win1_5.index t 2 * win1_5.size 2 + win1_5.xsize (grid1.coords t) 2
      omega
    | ⟨3, _⟩ =>
      show win1_5.index t 3 * win1_5.size 3 ≤ (i 3 : Nat) ∧ (i 3 : Nat) < win1_5.index t 3 * win1_5.size 3 + win1_5.xsize (grid1.coords t) 3
      omega

/-- What the second call leaves in its result 1 of 2. -/
theorem final1_5 (c : Dev nD) : (dat1 V c).arrAt 5 cfg1.N = laid (valBlock (V c main_v1) (V c main_v2) (V c main_v0_0) (V c main_v0_1) (V c main_arg0)) :=
  (dat1 V c).arrAt_eq_of_cover 5 (laid (valBlock (V c main_v1) (V c main_v2) (V c main_v0_0) (V c main_v0_1) (V c main_arg0))) (fun t _ => flushed1_5 V c t) fun i => by
    have h : (i 0).val < 8 := (i 0).isLt
    exact ⟨⟨(i 0).val, lt_of_lt_of_eq h N1.symm⟩, flush1_5 _, (mem1_5 _ i).mpr rfl⟩

theorem flushed1_6 (c : Dev nD) (t : Fin cfg1.N) :
    (dat1 V c).flushed 6 t = ((cfg1.win 6).blk t).view.read (Elt F) (laid (binBlock (V c main_v0_0) (V c main_v0_1) (V c main_arg0))) := by
  show (cfg1.win 6).cut (grid1.coords t) ((dat1 V c).after 6 t) = _
  rw [after1_6, outs_idx]
  obtain ⟨e0, e1, e2, e3, s0, s1, s2, s3⟩ := at1_6 t
  funext y
  have hy : (y 0).val < 1 := (y 0).isLt
  rw [View.read_apply]
  rw [laid_at _ _ (pt1 t) (⟨(y 1).val, (y 1).isLt⟩ : Fin 16) (⟨(y 2).val, (y 2).isLt⟩ : Fin 256) (⟨(y 3).val, (y 3).isLt⟩ : Fin 256)
    (by show win1_6.index t 0 * win1_6.size 0 + 1 * (y 0).val = t.val; omega)
    (by show win1_6.index t 1 * win1_6.size 1 + 1 * (y 1).val = (y 1).val; omega)
    (by show win1_6.index t 2 * win1_6.size 2 + 1 * (y 2).val = (y 2).val; omega)
    (by show win1_6.index t 3 * win1_6.size 3 + 1 * (y 3).val = (y 3).val; omega)]
  exact congrArg ((binBlock _ _ _ (pt1 t))) (blk_eq y _ _ _ rfl rfl rfl)

theorem mem1_6 (t : Fin cfg1.N) (i : S8x16x256x256.Idx) : i ∈ ((cfg1.win 6).blk t).view.set ↔ (i 0 : Nat) = t.val := mem1_5 t i

/-- What the second call leaves in its result 2 of 2. -/
theorem final1_6 (c : Dev nD) : (dat1 V c).arrAt 6 cfg1.N = laid (binBlock (V c main_v0_0) (V c main_v0_1) (V c main_arg0)) :=
  (dat1 V c).arrAt_eq_of_cover 6 (laid (binBlock (V c main_v0_0) (V c main_v0_1) (V c main_arg0))) (fun t _ => flushed1_6 V c t) fun i => by
    have h : (i 0).val < 8 := (i 0).isLt
    exact ⟨⟨(i 0).val, lt_of_lt_of_eq h N1.symm⟩, flush1_6 _, (mem1_6 _ i).mpr rfl⟩

end Cert.KernelIdeal.Val

end
-- ==== Proof.Whole.lean ====
/- The kernel's two results as functions of its arguments. -/
module

public import proofs.«01_k».proof.Proof.Run
public import proofs.«01_k».proof.Proof.Regions

@[expose] public section

set_option maxRecDepth 16384

noncomputable section

namespace Cert.KernelIdeal.Val

open Idealize.ShloMosaic Idealize.ShloMosaic.TcCoe Idealize.ShloMosaic.Tactic Idealize.ShloMosaic.StableHlo
open Idealize.SL.Sem
open Cert.KernelIdeal Cert.KernelIdeal.Gen

variable {F : FTy → Type} [FloatOps F]
variable (m : (ℓ : Loc nD τ sig) → Buf (Elt F) ℓ) (ρ : Dev nD → PrngReg)

/-- The weights as the second call reads them: 64 in a row. -/
def row64 (co : Vec F S8x8 .f32) : Vec F S64 .f32 := shapeCast S64 co shapeCasts_S8x8_S64
/-- The filter as the second call reads it: 27 in a row. -/
def row27 (f : Vec F S3x3x3 .f32) : Vec F S27 .f32 := shapeCast S27 f shapeCasts_S3x3x3_S27

theorem at_arg0 (c : Dev nD) : V2 m ρ c main_arg0 = m ((c : Thread nD τ).loc main_arg0) := W2_args m ρ c main_arg0 (by decide)

theorem at_v0_0 (c : Dev nD) : V2 m ρ c main_v0_0 = leasts (m ((c : Thread nD τ).loc main_arg0)) :=
  (W2_of m ρ c main_v0_0 (by decide)).trans ((W1_arr m ρ c 1).trans (final0_1 (V0 m ρ) c))
theorem at_v0_1 (c : Dev nD) : V2 m ρ c main_v0_1 = greatests (m ((c : Thread nD τ).loc main_arg0)) :=
  (W2_of m ρ c main_v0_1 (by decide)).trans ((W1_arr m ρ c 2).trans (final0_2 (V0 m ρ) c))

theorem at_v1 (c : Dev nD) : V2 m ρ c main_v1 = row64 (m ((c : Thread nD τ).loc main_arg1)) := by
  show StableHlo.after hostOps1 (W1 m ρ c) (Proc.devRef .tc main_v1) = _
  after_results
  exact congrArg row64 (W1_args m ρ c main_arg1 (by decide))
theorem at_v2 (c : Dev nD) : V2 m ρ c main_v2 = row27 (m ((c : Thread nD τ).loc main_arg2)) := by
  show StableHlo.after hostOps1 (W1 m ρ c) (Proc.devRef .tc main_v2) = _
  after_results
  exact congrArg row27 (W1_args m ρ c main_arg2 (by decide))

/-- The first result of the three arguments. -/
def outVal (x : Vec F S8x16x256x256 .f32) (co : Vec F S8x8 .f32) (f : Vec F S3x3x3 .f32) : Vec F S8x16x256x256 .f32 :=
  laid (valBlock (row64 co) (row27 f) (leasts x) (greatests x) x)
/-- The last result, the bins, of the first argument. -/
def outIdx (x : Vec F S8x16x256x256 .f32) : Vec F S8x16x256x256 .i32 :=
  laid (binBlock (leasts x) (greatests x) x)

theorem at_v3_0 (c : Dev nD) : W3 m ρ c (Proc.devRef .tc main_v3_0)
    = outVal (m ((c : Thread nD τ).loc main_arg0)) (m ((c : Thread nD τ).loc main_arg1)) (m ((c : Thread nD τ).loc main_arg2)) := by
  refine (W3_arr m ρ c 5).trans ((final1_5 (V2 m ρ) c).trans ?_)
  rw [at_arg0, at_v0_0, at_v0_1, at_v1, at_v2]
  rfl
theorem at_v3_1 (c : Dev nD) : W3 m ρ c (Proc.devRef .tc main_v3_1) = outIdx (m ((c : Thread nD τ).loc main_arg0)) := by
  refine (W3_arr m ρ c 6).trans ((final1_6 (V2 m ρ) c).trans ?_)
  rw [at_arg0, at_v0_0, at_v0_1]
  rfl

/-- What the kernel ends with, as functions of its arguments. -/
theorem run_values : θ_run defs (onTc (τ := τ) (main (F := F))) ⟨m, fun _ => 0, ρ⟩ (fun r => ∀ c : Dev nD,
      r.2.mem ((c.tc : Thread nD τ).loc main_v3_0)
        = outVal (m ((c.tc : Thread nD τ).loc main_arg0)) (m ((c.tc : Thread nD τ).loc main_arg1)) (m ((c.tc : Thread nD τ).loc main_arg2))
      ∧ r.2.mem ((c.tc : Thread nD τ).loc main_v3_1) = outIdx (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  obtain ⟨h0, h1, h2⟩ := h c
  exact ⟨h0.trans (at_v3_0 m ρ c), h1.trans (at_v3_1 m ρ c), h2⟩

end Cert.KernelIdeal.Val

end
-- ==== Proof.Cells.lean ====
/- The numbers both programs work with, at the extended reals: an image of 16 channels with zeros around it (`cell`), the bin of
   an entry (`bin`), and what the numerals of the two programs spell. -/
module

public import Idealize.ShloMosaic.Lib.Pointwise
public import Idealize.ShloMosaic.PureOps.Ideal

@[expose] public section

set_option maxRecDepth 16384

noncomputable section

namespace Cert.Cells

open Idealize.ShloMosaic

/-- The image `X` with a zero around it on every side: position `(a, h, w)` of it is position `(a - 1, h - 1, w - 1)` of `X`. -/
def cell (X : Fin 16 → Fin 256 → Fin 256 → EReal) (a h w : ℕ) : EReal :=
  if H : (1 ≤ a ∧ a ≤ 16) ∧ (1 ≤ h ∧ h ≤ 256) ∧ (1 ≤ w ∧ w ≤ 256) then
    X ⟨a - 1, by omega⟩ ⟨h - 1, by omega⟩ ⟨w - 1, by omega⟩
  else 0

/-- The bin of an entry `r`: the floor of `(r - lo) / hi * 8`. -/
def bin (lo hi r : EReal) : EReal := Ideal.liftRound Int.floor (Ideal.div (r - lo) hi * 8)

/-- The entry `r` where its bin compares with the number that `w` spells by `p`, else zero. -/
def kept (p : CmpFPredicate) (w : BitVec 16) (lo hi r : EReal) : EReal :=
  Scalar.select (Ideal.cmp p (bin lo hi r) (Ideal.ofBits .bf16 w)) r 0

theorem kept_zero (p : CmpFPredicate) (w : BitVec 16) (lo hi : EReal) : kept p w lo hi 0 = 0 := by
  unfold kept Scalar.select; split <;> rfl

theorem ofBits_8 : Ideal.ofBits .f32 0x41000000#32 = (8 : EReal) := by
  have : Ideal.ofBits .f32 0x41000000#32 = ((8 : ℝ) : EReal) := by
    simp [Ideal.ofBits, Ideal.ieee, -EReal.coe_mul]; norm_num
  rw [this]; rfl
theorem ofBits_b0 : Ideal.ofBits .bf16 0x0000#16 = ((0 : ℝ) : EReal) := by
  simp [Ideal.ofBits, Ideal.ieee, -EReal.coe_mul]
theorem ofBits_b1 : Ideal.ofBits .bf16 0x3F80#16 = ((1 : ℝ) : EReal) := by
  simp [Ideal.ofBits, Ideal.ieee, -EReal.coe_mul]; norm_num
theorem ofBits_b2 : Ideal.ofBits .bf16 0x4000#16 = ((2 : ℝ) : EReal) := by
  simp [Ideal.ofBits, Ideal.ieee, -EReal.coe_mul]; norm_num
theorem ofBits_b3 : Ideal.ofBits .bf16 0x4040#16 = ((3 : ℝ) : EReal) := by
  simp [Ideal.ofBits, Ideal.ieee, -EReal.coe_mul]; norm_num
theorem ofBits_b4 : Ideal.ofBits .bf16 0x4080#16 = ((4 : ℝ) : EReal) := by
  simp [Ideal.ofBits, Ideal.ieee, -EReal.coe_mul]; norm_num
theorem ofBits_b5 : Ideal.ofBits .bf16 0x40A0#16 = ((5 : ℝ) : EReal) := by
  simp [Ideal.ofBits, Ideal.ieee, -EReal.coe_mul]; norm_num
theorem ofBits_b6 : Ideal.ofBits .bf16 0x40C0#16 = ((6 : ℝ) : EReal) := by
  simp [Ideal.ofBits, Ideal.ieee, -EReal.coe_mul]; norm_num
theorem ofBits_b7 : Ideal.ofBits .bf16 0x40E0#16 = ((7 : ℝ) : EReal) := by
  simp [Ideal.ofBits, Ideal.ieee, -EReal.coe_mul]; norm_num

theorem ofBits_top : Ideal.ofBits .f32 0x7F800000#32 = (⊤ : EReal) := by simp [Ideal.ofBits, Ideal.ieee]
theorem ofBits_bot : Ideal.ofBits .f32 0xFF800000#32 = (⊥ : EReal) := by simp [Ideal.ofBits, Ideal.ieee]

/-- The 27 products grouped by filter row, as the kernel adds them, are the sum over the filter's three axes. -/
theorem regroup (f : Fin 27 → EReal) (g : ℕ → ℕ → ℕ → EReal) (a h w : ℕ) :
    (f 0 * g a h w + f 1 * g a h (w + 1) + f 2 * g a h (w + 2) + f 9 * g (1 + a) h w + f 10 * g (1 + a) h (w + 1) + f 11 * g (1 + a) h (w + 2) + f 18 * g (2 + a) h w + f 19 * g (2 + a) h (w + 1) + f 20 * g (2 + a) h (w + 2))
      + (f 3 * g a (1 + h) w + f 4 * g a (1 + h) (w + 1) + f 5 * g a (1 + h) (w + 2) + f 12 * g (1 + a) (1 + h) w + f 13 * g (1 + a) (1 + h) (w + 1) + f 14 * g (1 + a) (1 + h) (w + 2) + f 21 * g (2 + a) (1 + h) w + f 22 * g (2 + a) (1 + h) (w + 1) + f 23 * g (2 + a) (1 + h) (w + 2))
      + (f 6 * g a (2 + h) w + f 7 * g a (2 + h) (w + 1) + f 8 * g a (2 + h) (w + 2) + f 15 * g (1 + a) (2 + h) w + f 16 * g (1 + a) (2 + h) (w + 1) + f 17 * g (1 + a) (2 + h) (w + 2) + f 24 * g (2 + a) (2 + h) w + f 25 * g (2 + a) (2 + h) (w + 1) + f 26 * g (2 + a) (2 + h) (w + 2))
    = ∑ i : Fin 3, ∑ j : Fin 3, ∑ k : Fin 3, f ⟨i * 9 + j * 3 + k, by omega⟩ * g (i + a) (j + h) (k + w) := by
  simp only [Fin.sum_univ_three, Fin.val_zero, Fin.val_one, Fin.val_two, zero_mul, one_mul, zero_add, Nat.reduceMul, Nat.reduceAdd,
    add_comm w, Fin.reduceFinMk, Fin.zero_eta, Fin.mk_one]
  abel

/-- The weight picked by the bin `b`: `c A` where `b` is `A` of `0 … 7`, zero elsewhere. -/
def picked (c : Fin 8 → EReal) (b : EReal) : EReal :=
  if b = 0 then c 0 else if b = 1 then c 1 else if b = ((2 : ℝ) : EReal) then c 2 else if b = ((3 : ℝ) : EReal) then c 3
    else if b = ((4 : ℝ) : EReal) then c 4 else if b = ((5 : ℝ) : EReal) then c 5 else if b = ((6 : ℝ) : EReal) then c 6
    else if b = ((7 : ℝ) : EReal) then c 7 else 0

/-- The 27 products of the filter with a field `g` around the position `(a, h, w)`. -/
def conv (f : Fin 27 → EReal) (g : ℕ → ℕ → ℕ → EReal) (a h w : ℕ) : EReal :=
  ∑ i : Fin 3, ∑ j : Fin 3, ∑ k : Fin 3, f ⟨i * 9 + j * 3 + k, by omega⟩ * g (i + a) (j + h) (k + w)

/-- One bin's part of the kernel's output: the weight picked by the bin `b` of the middle, times the 27 products of the
    entries kept for the bin that `w` spells. -/
def partOf (p : CmpFPredicate) (w : BitVec 16) (c : Fin 8 → EReal) (f : Fin 27 → EReal) (lo hi : EReal)
    (X : Fin 16 → Fin 256 → Fin 256 → EReal) (b : EReal) (a h v : ℕ) : EReal :=
  picked c b * conv f (fun a h w' => kept p w lo hi (cell X a h w')) a h v

/-- The kernel's output at a position: the eight bins' parts added up. -/
def mixed (c : Fin 64 → EReal) (f : Fin 27 → EReal) (lo hi : EReal) (X : Fin 16 → Fin 256 → Fin 256 → EReal)
    (a : Fin 16) (h w : Fin 256) : EReal :=
  let b := bin lo hi (X a h w)
  partOf .oeq 0x0000#16 ![c 0, c 8, c 16, c 24, c 32, c 40, c 48, c 56] f lo hi X b a h w
  + partOf .oeq 0x3F80#16 ![c 1, c 9, c 17, c 25, c 33, c 41, c 49, c 57] f lo hi X b a h w
  + partOf .oeq 0x4000#16 ![c 2, c 10, c 18, c 26, c 34, c 42, c 50, c 58] f lo hi X b a h w
  + partOf .oeq 0x4040#16 ![c 3, c 11, c 19, c 27, c 35, c 43, c 51, c 59] f lo hi X b a h w
  + partOf .oeq 0x4080#16 ![c 4, c 12, c 20, c 28, c 36, c 44, c 52, c 60] f lo hi X b a h w
  + partOf .oeq 0x40A0#16 ![c 5, c 13, c 21, c 29, c 37, c 45, c 53, c 61] f lo hi X b a h w
  + partOf .oeq 0x40C0#16 ![c 6, c 14, c 22, c 30, c 38, c 46, c 54, c 62] f lo hi X b a h w
  + partOf .oge 0x40E0#16 ![c 7, c 15, c 23, c 31, c 39, c 47, c 55, c 63] f lo hi X b a h w

/-- 27 terms added one after the other are their sum over three axes. -/
theorem regroup3 (t : Fin 3 → Fin 3 → Fin 3 → EReal) :
    t 0 0 0 + t 0 0 1 + t 0 0 2 + t 0 1 0 + t 0 1 1 + t 0 1 2 + t 0 2 0 + t 0 2 1 + t 0 2 2 + t 1 0 0 + t 1 0 1 + t 1 0 2 + t 1 1 0 + t 1 1 1 + t 1 1 2 + t 1 2 0 + t 1 2 1 + t 1 2 2 + t 2 0 0 + t 2 0 1 + t 2 0 2 + t 2 1 0 + t 2 1 1 + t 2 1 2 + t 2 2 0 + t 2 2 1 + t 2 2 2
    = ∑ i : Fin 3, ∑ j : Fin 3, ∑ k : Fin 3, t i j k := by
  simp only [Fin.sum_univ_three]
  abel

end Cert.Cells
end
-- ==== Proof.Block.lean ====
/- The main kernel's output block at an index, over the extended reals: the eight bins' weights, each times the sum of the 27
   products of the filter with the entries around the index that are of that bin. -/
module

public import proofs.«01_k».proof.Proof.Struct
public import proofs.«01_k».proof.Proof.Cells

@[expose] public section

set_option maxRecDepth 16384

noncomputable section

namespace Cert.KernelIdeal.Val

open Idealize.ShloMosaic Idealize.ShloMosaic.TcCoe Idealize.ShloMosaic.Tactic
open Cert.KernelIdeal.Gen Cert.Cells

/-- The image in a block: channel, row, column. -/
abbrev img (v : Vec Ideal S1x16x256x256 .f32) : Fin 16 → Fin 256 → Fin 256 → EReal := fun a h w => v (ix4 0 a h w)

/-- A padded row's entry is the image's, the column being inside it. -/
theorem padRows_apply (v : Vec Ideal S1x16x256x256 .f32) (a : Fin 16) (h : Fin 258) (w : Fin 256) :
    padRows v (ix3 a h w) = cell (img v) (a + 1) h (w + 1) := by
  have ha := a.isLt; have hw := w.isLt
  pointwise [padRows]
  unfold cell
  by_cases h1 : (h : ℕ) < 1
  · rw [dif_pos h1, dif_neg (by omega)]
  · rw [dif_neg h1]
    by_cases h2 : (h : ℕ) - 1 < 256
    · rw [dif_pos h2, dif_pos (by omega)]
      rfl
    · rw [dif_neg h2, dif_neg (by omega)]

/-- An entry kept for one bin. -/
theorem keep_apply (p : CmpFPredicate) (b : BitVec 16) (lo hi : Ideal .f32) (v : Vec Ideal S1x16x256x256 .f32) (a : Fin 16) (h : Fin 258) (w : Fin 256) :
    keep p b (truncf .bf16 (bins lo hi (padRows v)) bitsLt_bf16_f32) (truncf .bf16 (padRows v) bitsLt_bf16_f32) (ix3 a h w)
      = kept p b lo hi (cell (img v) (a + 1) h (w + 1)) := by
  pointwise [keep, bins]
  rw [padRows_apply, ofBits_8]
  rfl

variable (y : FVec Ideal S16x258x256 .bf16) (g : ℕ → ℕ → ℕ → EReal)

/-- `g` spells the array `y` with zeros around it: `y` itself inside, zero at channel or column 0 and past the last. -/
structure Spells : Prop where
  inside : ∀ (a : Fin 16) (h : Fin 258) (w : Fin 256), y (ix3 a h w) = g (a + 1) h (w + 1)
  chan : ∀ a h w : ℕ, (a = 0 ∨ 17 ≤ a) → g a h w = 0
  col : ∀ a h w : ℕ, (w = 0 ∨ 257 ≤ w) → g a h w = 0

variable {y g} (S : Spells y g)
include S

theorem mid_apply (a : Fin 18) (h : Fin 258) (w : Fin 256) : padChans y (ix3 a h w) = g a h (w + 1) := by
  have ha := a.isLt; have hw := w.isLt
  pointwise [padChans]
  by_cases h1 : (a : ℕ) < 1
  · rw [dif_pos h1, S.chan _ _ _ (by omega)]
  · rw [dif_neg h1]
    by_cases h2 : (a : ℕ) - 1 < 16
    · rw [dif_pos h2, S.inside]
      congr 1
      show (a : ℕ) - 1 + 1 = a
      omega
    · rw [dif_neg h2, S.chan _ _ _ (by omega)]

theorem left_apply (a : Fin 18) (h : Fin 258) (w : Fin 256) : fromLeft (padChans y) (ix3 a h w) = g a h w := by
  have ha := a.isLt; have hw := w.isLt
  pointwise [fromLeft]
  by_cases h1 : (w : ℕ) < 1
  · rw [dif_pos h1, S.col _ _ _ (by omega)]
  · rw [dif_neg h1, mid_apply S]
    congr 1
    show (w : ℕ) - 1 + 1 = w
    omega

theorem right_apply (a : Fin 18) (h : Fin 258) (w : Fin 256) : fromRight (padChans y) (ix3 a h w) = g a h (w + 2) := by
  have ha := a.isLt; have hw := w.isLt
  pointwise [fromRight]
  by_cases h1 : (w : ℕ) < 255
  · rw [dif_pos h1, mid_apply S]
    congr 1
    show 1 + (w : ℕ) + 1 = w + 2
    omega
  · rw [dif_neg h1, S.col _ _ _ (by omega)]

theorem tap0_left (f : Ideal .bf16) (a : Fin 16) (h : Fin 258) (w : Fin 256) : tap0 f (fromLeft (padChans y)) (ix3 a h w) = f * g a h w := by
  pointwise [tap0]; rw [left_apply S]
theorem tap0_mid (f : Ideal .bf16) (a : Fin 16) (h : Fin 258) (w : Fin 256) : tap0 f (padChans y) (ix3 a h w) = f * g a h (w + 1) := by
  pointwise [tap0]; rw [mid_apply S]
theorem tap0_right (f : Ideal .bf16) (a : Fin 16) (h : Fin 258) (w : Fin 256) : tap0 f (fromRight (padChans y)) (ix3 a h w) = f * g a h (w + 2) := by
  pointwise [tap0]; rw [right_apply S]
theorem tap1_left (f : Ideal .bf16) (a : Fin 16) (h : Fin 258) (w : Fin 256) : tap1 f (fromLeft (padChans y)) (ix3 a h w) = f * g (1 + a) h w := by
  pointwise [tap1]; rw [left_apply S]
theorem tap1_mid (f : Ideal .bf16) (a : Fin 16) (h : Fin 258) (w : Fin 256) : tap1 f (padChans y) (ix3 a h w) = f * g (1 + a) h (w + 1) := by
  pointwise [tap1]; rw [mid_apply S]
theorem tap1_right (f : Ideal .bf16) (a : Fin 16) (h : Fin 258) (w : Fin 256) : tap1 f (fromRight (padChans y)) (ix3 a h w) = f * g (1 + a) h (w + 2) := by
  pointwise [tap1]; rw [right_apply S]
theorem tap2_left (f : Ideal .bf16) (a : Fin 16) (h : Fin 258) (w : Fin 256) : tap2 f (fromLeft (padChans y)) (ix3 a h w) = f * g (2 + a) h w := by
  pointwise [tap2]; rw [left_apply S]
theorem tap2_mid (f : Ideal .bf16) (a : Fin 16) (h : Fin 258) (w : Fin 256) : tap2 f (padChans y) (ix3 a h w) = f * g (2 + a) h (w + 1) := by
  pointwise [tap2]; rw [mid_apply S]
theorem tap2_right (f : Ideal .bf16) (a : Fin 16) (h : Fin 258) (w : Fin 256) : tap2 f (fromRight (padChans y)) (ix3 a h w) = f * g (2 + a) h (w + 2) := by
  pointwise [tap2]; rw [right_apply S]

/-- One filter row's nine products. -/
theorem nine_apply (f0 f1 f2 f3 f4 f5 f6 f7 f8 : Ideal .bf16) (a : Fin 16) (h : Fin 258) (w : Fin 256) :
    nine f0 f1 f2 f3 f4 f5 f6 f7 f8 (padChans y) (ix3 a h w)
      = (f0 * g a h w + f1 * g a h (w + 1) + f2 * g a h (w + 2)
        + f3 * g (1 + a) h w + f4 * g (1 + a) h (w + 1) + f5 * g (1 + a) h (w + 2)
        + f6 * g (2 + a) h w + f7 * g (2 + a) h (w + 1) + f8 * g (2 + a) h (w + 2) : EReal) := by
  pointwise [nine]
  rw [tap0_left S, tap0_mid S, tap0_right S, tap1_left S, tap1_mid S, tap1_right S, tap2_left S, tap2_mid S, tap2_right S]

/-- The 27 products of one bin. -/
theorem taps_apply (f : Fin 27 → Ideal .bf16) (a : Fin 16) (h : Fin 256) (w : Fin 256) :
    taps f (padChans y) (ix3 a h w)
      = ∑ i : Fin 3, ∑ j : Fin 3, ∑ k : Fin 3,
          (f ⟨i * 9 + j * 3 + k, by omega⟩ : EReal) * g (i + a) (j + h) (k + w) := by
  pointwise [taps]
  rw [nine_apply S, nine_apply S, nine_apply S]
  exact regroup f g a h w

omit S

/-- The weight picked by the entry's own bin `b`. -/
theorem weight_apply (c0 c1 c2 c3 c4 c5 c6 c7 : Ideal .bf16) (b : FVec Ideal S16x258x256 .bf16) (a : Fin 16) (h w : Fin 256) :
    weight c0 c1 c2 c3 c4 c5 c6 c7 (inner b) (ix3 a h w)
      = picked ![c0, c1, c2, c3, c4, c5, c6, c7] (b (ix3 a ⟨1 + h, by omega⟩ w)) := by
  pointwise [weight, pick, inner]
  rw [ofBits_b2, ofBits_b3, ofBits_b4, ofBits_b5, ofBits_b6, ofBits_b7]
  rfl

/-- The entries kept for one bin, with the zeros around them. -/
theorem spells_keep (p : CmpFPredicate) (b : BitVec 16) (lo hi : Ideal .f32) (v : Vec Ideal S1x16x256x256 .f32) :
    Spells (keep p b (truncf .bf16 (bins lo hi (padRows v)) bitsLt_bf16_f32) (truncf .bf16 (padRows v) bitsLt_bf16_f32))
      (fun a h w => kept p b lo hi (cell (img v) a h w)) where
  inside := keep_apply p b lo hi v
  chan a h w H := by
    have : cell (img v) a h w = 0 := dif_neg (by omega)
    simp only [this, kept_zero]
  col a h w H := by
    have : cell (img v) a h w = 0 := dif_neg (by omega)
    simp only [this, kept_zero]

/-- The bin of a padded row's entry. -/
theorem bins_apply (lo hi : Ideal .f32) (v : Vec Ideal S1x16x256x256 .f32) (a : Fin 16) (h w : Fin 256) :
    bins lo hi (padRows v) (ix3 a ⟨1 + h, by omega⟩ w) = bin lo hi (img v a h w) := by
  have e : padRows v (ix3 a ⟨1 + h, by omega⟩ w) = img v a h w := by
    rw [padRows_apply]
    refine (dif_pos ⟨⟨?_, ?_⟩, ⟨?_, ?_⟩, ?_, ?_⟩).trans ?_ <;> (try simp only) <;> (try omega)
    congr 1
    exact Fin.ext (by simp)
  pointwise [bins]
  rw [e, ofBits_8]
  rfl

/-- One bin's part. -/
theorem part_apply (p : CmpFPredicate) (b : BitVec 16) (c0 c1 c2 c3 c4 c5 c6 c7 : Ideal .bf16) (f : Fin 27 → Ideal .bf16)
    (lo hi : Ideal .f32) (v : Vec Ideal S1x16x256x256 .f32) (a : Fin 16) (h w : Fin 256) :
    part p b c0 c1 c2 c3 c4 c5 c6 c7 f (truncf .bf16 (bins lo hi (padRows v)) bitsLt_bf16_f32) (truncf .bf16 (padRows v) bitsLt_bf16_f32) (ix3 a h w)
      = partOf p b ![c0, c1, c2, c3, c4, c5, c6, c7] f lo hi (img v) (bin lo hi (img v a h w)) a h w := by
  pointwise [part]
  rw [taps_apply (spells_keep p b lo hi v), weight_apply, ← bins_apply lo hi v a h w]
  rfl

/-- The output block at an index. -/
theorem outBlock_apply (c : Fin 64 → Ideal .f32) (f : Fin 27 → Ideal .f32) (lo hi : Ideal .f32) (v : Vec Ideal S1x16x256x256 .f32)
    (a : Fin 16) (h w : Fin 256) : outBlock c f lo hi v (ix4 0 a h w) = mixed c f lo hi (img v) a h w := by
  pointwise [outBlock, mix]
  simp only [part_apply]
  rfl

/-- The block of bins at an index. -/
theorem idxBlock_apply (lo hi : Ideal .f32) (v : Vec Ideal S1x16x256x256 .f32) (a : Fin 16) (h w : Fin 256) :
    idxBlock lo hi v (ix4 0 a h w) = Ideal.fptosi 32 (bin lo hi (img v a h w)) := by
  pointwise [idxBlock]
  rw [bins_apply]
  rfl

end Cert.KernelIdeal.Val
end
-- ==== Proof.MinMax.lean ====
/- The least and the greatest entry: what both kernels' reductions give, by what lies below and above them. -/
module

public import proofs.«01_k».proof.Proof.Gen.KernelIdeal.Frame
public import proofs.«01_k».proof.Proof.Cells

@[expose] public section

set_option maxRecDepth 16384

noncomputable section

namespace Cert.KernelIdeal.Val

open Idealize.ShloMosaic Idealize.ShloMosaic.TcCoe Idealize.ShloMosaic.Tactic
open Cert.KernelIdeal.Gen Cert.Cells

theorem eq_one (i j : S1.Idx) : i = j := by
  rw [eq_ix1 i, eq_ix1 j]
  exact congrArg ix1 (Subsingleton.elim (α := Fin 1) _ _)

/-- The block with its channels and rows in one axis. -/
theorem flat_apply (v : Vec Ideal S1x16x256x256 .f32) (t : Fin 4096) (w : Fin 256) :
    k0_pay1 v (ix2 t w) = v (ix4 0 ⟨t / 256, by omega⟩ ⟨t % 256, by omega⟩ w) := by
  pointwise [k0_pay1]

theorem k0_pay2_bound (v : Vec Ideal S1x16x256x256 .f32) (j : Fin 128) (r : EReal) :
    r ≤ k0_pay2 v (ix3 0 0 j) ↔ ∀ (a : Fin 16) (h w : Fin 256), r ≤ (v (ix4 0 a h w) : EReal) := by
  pointwise [k0_pay2]
  rw [ofBits_top, Finset.le_fold_min]
  simp only [Finset.le_fold_min, le_top, true_and, Finset.mem_univ, forall_true_left, flat_apply]
  constructor
  · intro H a h w
    have := H w ⟨a * 256 + h, by omega⟩
    have ea : (⟨((a : ℕ) * 256 + h) / 256, by omega⟩ : Fin 16) = a := Fin.ext (by show ((a : ℕ) * 256 + h) / 256 = a; omega)
    have eh : (⟨((a : ℕ) * 256 + h) % 256, by omega⟩ : Fin 256) = h := Fin.ext (by show ((a : ℕ) * 256 + h) % 256 = h; omega)
    simpa only [ea, eh] using this
  · intro H w t
    exact H _ _ _

theorem k1_pay2_bound (v : Vec Ideal S8x1x128 .f32) (r : EReal) :
    r ≤ k1_pay2 v ↔ ∀ (n : Fin 8) (j : Fin 128), r ≤ (v (ix3 n 0 j) : EReal) := by
  unfold k1_pay2
  pointwise []
  rw [ofBits_top, Finset.le_fold_min]
  simp only [le_top, true_and, Finset.mem_filter, Finset.mem_univ]
  constructor
  · intro H n j
    exact H (ix4 0 n 0 j) (eq_one _ _)
  · intro H i _
    exact H _ _

theorem k0_pay3_bound (v : Vec Ideal S1x16x256x256 .f32) (j : Fin 128) (r : EReal) :
    k0_pay3 v (ix3 0 0 j) ≤ r ↔ ∀ (a : Fin 16) (h w : Fin 256), (v (ix4 0 a h w) : EReal) ≤ r := by
  pointwise [k0_pay3]
  rw [ofBits_bot, Finset.fold_max_le]
  simp only [Finset.fold_max_le, bot_le, true_and, Finset.mem_univ, forall_true_left, flat_apply]
  constructor
  · intro H a h w
    have := H w ⟨a * 256 + h, by omega⟩
    have ea : (⟨((a : ℕ) * 256 + h) / 256, by omega⟩ : Fin 16) = a := Fin.ext (by show ((a : ℕ) * 256 + h) / 256 = a; omega)
    have eh : (⟨((a : ℕ) * 256 + h) % 256, by omega⟩ : Fin 256) = h := Fin.ext (by show ((a : ℕ) * 256 + h) % 256 = h; omega)
    simpa only [ea, eh] using this
  · intro H w t
    exact H _ _ _

theorem k1_pay3_bound (v : Vec Ideal S8x1x128 .f32) (r : EReal) :
    k1_pay3 v ≤ r ↔ ∀ (n : Fin 8) (j : Fin 128), (v (ix3 n 0 j) : EReal) ≤ r := by
  unfold k1_pay3
  pointwise []
  rw [ofBits_bot, Finset.fold_max_le]
  simp only [bot_le, true_and, Finset.mem_filter, Finset.mem_univ]
  constructor
  · intro H n j
    exact H (ix4 0 n 0 j) (eq_one _ _)
  · intro H i _
    exact H _ _

end Cert.KernelIdeal.Val
end
-- ==== Proof.Ref.lean ====
/- The reference's two results at an index, over the extended reals. -/
module

public import proofs.«01_k».proof.Proof.Gen.ReferenceIdeal.Run
public import proofs.«01_k».proof.Proof.Cells
public import Idealize.ShloMosaic.Lib.Tactic

@[expose] public section

set_option maxRecDepth 16384

noncomputable section

namespace Cert.ReferenceIdeal.Reading

open Idealize.ShloMosaic Idealize.ShloMosaic.TcCoe Idealize.ShloMosaic.Tactic Idealize.ShloMosaic.StableHlo
open Cert.ReferenceIdeal.Gen Cert.ReferenceIdeal.Value Cert.Cells

/-- A column of the weights, taken by an index word that is read signed and held to `0 … 7`. -/
theorem gather_apply (co : S8x8.Idx → EReal) (idx : IVec S8x16x256x256x1 32) (q : Fin 8) (n : Fin 8) (a : Fin 16) (h w : Fin 256) :
    Host.gather gather_S8x8_S8x16x256x256x1_S8x8x16x256x256_0_1_n_n_1_4_81 co idx (ix5 q n a h w)
      = co (ix2 q ⟨min (idx (ix5 n a h w 0)).toInt.toNat 7, by omega⟩) := by
  unfold Host.gather
  refine congrArg co (funext fun b => Fin.ext ?_)
  match b with
  | ⟨0, _⟩ =>
    show 0 + 0 + (q : ℕ) = q
    omega
  | ⟨1, _⟩ =>
    have e : gather_S8x8_S8x16x256x256x1_S8x8x16x256x256_0_1_n_n_1_4_81.siIdx (ix5 q n a h w) ⟨0, by decide⟩ = ix5 n a h w 0 := by
      funext c; refine Fin.ext ?_
      match c with
      | ⟨0, _⟩ => rfl
      | ⟨1, _⟩ => rfl
      | ⟨2, _⟩ => rfl
      | ⟨3, _⟩ => rfl
      | ⟨4, _⟩ => rfl
    show min (idx (gather_S8x8_S8x16x256x256x1_S8x8x16x256x256_0_1_n_n_1_4_81.siIdx (ix5 q n a h w) ⟨0, by decide⟩)).toInt.toNat 7 + 0 + 0 = _
    rw [e]
    rfl

section Parts
variable {F : FTy → Type} [FloatOps F]

/-- Every entry's bin as an integer word, from the least and the greatest entry. -/
def quant (x : FVec F S8x16x256x256 .f32) (l g : FVec F S_ .f32) : IVec S8x16x256x256 32 :=
  fptosi 32 (Host.floor (mulf (Host.divf (subf x (broadcastInDim S8x16x256x256 ![] bcast_S_S8x16x256x256 l))
    (broadcastInDim S8x16x256x256 ![] bcast_S_S8x16x256x256 g)) (broadcastInDim S8x16x256x256 ![] bcast_S_S8x16x256x256 (constant S_ .f32 0x41000000#32))))

/-- The least and the greatest entry. -/
def least (x : FVec F S8x16x256x256 .f32) : FVec F S_ .f32 :=
  Host.reduce FloatOps.minimumf x (constant S_ .f32 0x7F800000#32) reducesTo_S8x16x256x256_S_d0_1_2_3 h_S_
@[inherit_doc least] def greatest (x : FVec F S8x16x256x256 .f32) : FVec F S_ .f32 :=
  Host.reduce FloatOps.maximumf x (constant S_ .f32 0xFF800000#32) reducesTo_S8x16x256x256_S_d0_1_2_3 h_S_

/-- The bins as column numbers, a negative one counted from the end. -/
def columns (b : IVec S8x16x256x256 32) : IVec S8x16x256x256x1 32 :=
  broadcastInDim S8x16x256x256x1 ![0, 1, 2, 3] bcast_S8x16x256x256_S8x16x256x256x1_0_1_2_3
    (select (cmpi .slt b (broadcastInDim S8x16x256x256 ![] bcast_S_S8x16x256x256 (constantI S_ 32 0#32)))
      (addi b (broadcastInDim S8x16x256x256 ![] bcast_S_S8x16x256x256 (constantI S_ 32 8#32))) b)

/-- Per row of the weights, the entries weighted by their own bins' columns, with a zero around every image. -/
def padded (co : FVec F S8x8 .f32) (x : FVec F S8x16x256x256 .f32) (b : IVec S8x16x256x256 32) : FVec F S8x8x18x258x258 .f32 :=
  pad S8x8x18x258x258 ![0, 0, 1, 1, 1] ![0, 0, 1, 1, 1] ![0, 0, 0, 0, 0]
    (mulf (Host.gather gather_S8x8_S8x16x256x256x1_S8x8x16x256x256_0_1_n_n_1_4_81 co (columns b))
      (broadcastInDim S8x8x16x256x256 ![0, 1, 2, 3, 4] bcast_S1x8x16x256x256_S8x8x16x256x256_0_1_2_3_4
        (broadcastInDim S1x8x16x256x256 ![1, 2, 3, 4] bcast_S8x16x256x256_S1x8x16x256x256_1_2_3_4 x)))
    (sitofp .f32 (constantI S_ 32 0#32)) pads_S8x8x16x256x256_S8x8x18x258x258_000_000_110_110_110 h_S_

/-- One of the filter's 27 entries times the padded entries moved by its place. -/
def tap (f : FVec F S3x3x3 .f32) (p : FVec F S8x8x18x258x258 .f32) (i j k : ℕ) (h1 : S3x3x3.Slices ![i, j, k] S1x1x1)
    (h2 : S8x8x18x258x258.Slices ![0, 0, i, j, k] S8x8x16x256x256) : FVec F S8x8x16x256x256 .f32 :=
  mulf (broadcastInDim S8x8x16x256x256 ![] bcast_S_S8x8x16x256x256 (shapeCast _ (extractStridedSlice S1x1x1 ![i, j, k] f h1) shapeCasts_S1x1x1_S_))
    (extractStridedSlice S8x8x16x256x256 ![0, 0, i, j, k] p h2)

/-- The 27 products, added up from zero. -/
def filtered (f : FVec F S3x3x3 .f32) (p : FVec F S8x8x18x258x258 .f32) : FVec F S8x8x16x256x256 .f32 :=
  addf (addf (addf (addf (addf (addf (addf (addf (addf (addf (addf (addf (addf (addf (addf (addf (addf (addf (addf (addf (addf (addf (addf (addf (addf (addf (addf (broadcastInDim S8x8x16x256x256 ![] bcast_S_S8x8x16x256x256 (constant S_ .f32 0x00000000#32))
    (tap f p 0 0 0 slices_S3x3x3_S1x1x1_0_0_0 slices_S8x8x18x258x258_S8x8x16x256x256_0_0_0_0_0))
    (tap f p 0 0 1 slices_S3x3x3_S1x1x1_0_0_1 slices_S8x8x18x258x258_S8x8x16x256x256_0_0_0_0_1))
    (tap f p 0 0 2 slices_S3x3x3_S1x1x1_0_0_2 slices_S8x8x18x258x258_S8x8x16x256x256_0_0_0_0_2))
    (tap f p 0 1 0 slices_S3x3x3_S1x1x1_0_1_0 slices_S8x8x18x258x258_S8x8x16x256x256_0_0_0_1_0))
    (tap f p 0 1 1 slices_S3x3x3_S1x1x1_0_1_1 slices_S8x8x18x258x258_S8x8x16x256x256_0_0_0_1_1))
    (tap f p 0 1 2 slices_S3x3x3_S1x1x1_0_1_2 slices_S8x8x18x258x258_S8x8x16x256x256_0_0_0_1_2))
    (tap f p 0 2 0 slices_S3x3x3_S1x1x1_0_2_0 slices_S8x8x18x258x258_S8x8x16x256x256_0_0_0_2_0))
    (tap f p 0 2 1 slices_S3x3x3_S1x1x1_0_2_1 slices_S8x8x18x258x258_S8x8x16x256x256_0_0_0_2_1))
    (tap f p 0 2 2 slices_S3x3x3_S1x1x1_0_2_2 slices_S8x8x18x258x258_S8x8x16x256x256_0_0_0_2_2))
    (tap f p 1 0 0 slices_S3x3x3_S1x1x1_1_0_0 slices_S8x8x18x258x258_S8x8x16x256x256_0_0_1_0_0))
    (tap f p 1 0 1 slices_S3x3x3_S1x1x1_1_0_1 slices_S8x8x18x258x258_S8x8x16x256x256_0_0_1_0_1))
    (tap f p 1 0 2 slices_S3x3x3_S1x1x1_1_0_2 slices_S8x8x18x258x258_S8x8x16x256x256_0_0_1_0_2))
    (tap f p 1 1 0 slices_S3x3x3_S1x1x1_1_1_0 slices_S8x8x18x258x258_S8x8x16x256x256_0_0_1_1_0))
    (tap f p 1 1 1 slices_S3x3x3_S1x1x1_1_1_1 slices_S8x8x18x258x258_S8x8x16x256x256_0_0_1_1_1))
    (tap f p 1 1 2 slices_S3x3x3_S1x1x1_1_1_2 slices_S8x8x18x258x258_S8x8x16x256x256_0_0_1_1_2))
    (tap f p 1 2 0 slices_S3x3x3_S1x1x1_1_2_0 slices_S8x8x18x258x258_S8x8x16x256x256_0_0_1_2_0))
    (tap f p 1 2 1 slices_S3x3x3_S1x1x1_1_2_1 slices_S8x8x18x258x258_S8x8x16x256x256_0_0_1_2_1))
    (tap f p 1 2 2 slices_S3x3x3_S1x1x1_1_2_2 slices_S8x8x18x258x258_S8x8x16x256x256_0_0_1_2_2))
    (tap f p 2 0 0 slices_S3x3x3_S1x1x1_2_0_0 slices_S8x8x18x258x258_S8x8x16x256x256_0_0_2_0_0))
    (tap f p 2 0 1 slices_S3x3x3_S1x1x1_2_0_1 slices_S8x8x18x258x258_S8x8x16x256x256_0_0_2_0_1))
    (tap f p 2 0 2 slices_S3x3x3_S1x1x1_2_0_2 slices_S8x8x18x258x258_S8x8x16x256x256_0_0_2_0_2))
    (tap f p 2 1 0 slices_S3x3x3_S1x1x1_2_1_0 slices_S8x8x18x258x258_S8x8x16x256x256_0_0_2_1_0))
    (tap f p 2 1 1 slices_S3x3x3_S1x1x1_2_1_1 slices_S8x8x18x258x258_S8x8x16x256x256_0_0_2_1_1))
    (tap f p 2 1 2 slices_S3x3x3_S1x1x1_2_1_2 slices_S8x8x18x258x258_S8x8x16x256x256_0_0_2_1_2))
    (tap f p 2 2 0 slices_S3x3x3_S1x1x1_2_2_0 slices_S8x8x18x258x258_S8x8x16x256x256_0_0_2_2_0))
    (tap f p 2 2 1 slices_S3x3x3_S1x1x1_2_2_1 slices_S8x8x18x258x258_S8x8x16x256x256_0_0_2_2_1))
    (tap f p 2 2 2 slices_S3x3x3_S1x1x1_2_2_2 slices_S8x8x18x258x258_S8x8x16x256x256_0_0_2_2_2)

/-- Where an entry's bin is the row's number, one; elsewhere zero. -/
def mask (b : IVec S8x16x256x256 32) : FVec F S8x8x16x256x256 .f32 :=
  uitofp .f32 (cmpi .eq (broadcastInDim S8x8x16x256x256 ![0, 1, 2, 3, 4] bcast_S1x8x16x256x256_S8x8x16x256x256_0_1_2_3_4
      (broadcastInDim S1x8x16x256x256 ![1, 2, 3, 4] bcast_S8x16x256x256_S1x8x16x256x256_1_2_3_4 b))
    (broadcastInDim S8x8x16x256x256 ![0, 1, 2, 3, 4] bcast_S8x1x1x1x1_S8x8x16x256x256_0_1_2_3_4
      (broadcastInDim S8x1x1x1x1 ![0] bcast_S8_S8x1x1x1x1_0 (iotaInDim S8 32 0))))

/-- The first result: over the eight rows, the mask times the filtered entries, added up. -/
def summed (b : IVec S8x16x256x256 32) (s : FVec F S8x8x16x256x256 .f32) : FVec F S8x16x256x256 .f32 :=
  Host.reduceAdd (mulf (mask b) s) (constant S_ .f32 0x00000000#32) reducesTo_S8x8x16x256x256_S8x16x256x256_d0 h_S_

/-- The last result, the bins, of the first argument. -/
def outIdx (x : FVec F S8x16x256x256 .f32) : IVec S8x16x256x256 32 := quant x (least x) (greatest x)
/-- The first result of the three arguments. -/
def outVal (x : FVec F S8x16x256x256 .f32) (co : FVec F S8x8 .f32) (f : FVec F S3x3x3 .f32) : FVec F S8x16x256x256 .f32 :=
  summed (outIdx x) (filtered f (padded co x (outIdx x)))

theorem idx_parts (V0 : Valuation τ sig (Elt F)) : res_main_v9 V0 = outIdx (V0 (Proc.devRef .tc main_arg0)) := by
  sl_kernel_rfl

theorem pad_parts (V0 : Valuation τ sig (Elt F)) : res_main_v20 V0
    = padded (V0 (Proc.devRef .tc main_arg1)) (V0 (Proc.devRef .tc main_arg0)) (outIdx (V0 (Proc.devRef .tc main_arg0))) := by
  sl_kernel_rfl

/-- What the reference ends with, in these parts. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192) = outVal (m ((c.tc : Thread nD τ).loc main_arg0)) (m ((c.tc : Thread nD τ).loc main_arg1)) (m ((c.tc : Thread nD τ).loc main_arg2))
      ∧ r.2.mem ((c.tc : Thread nD τ).loc main_v9) = outIdx (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, -, -, h3, h4, h5, h6⟩ := h c
  refine ⟨h0.trans ?_, h3.trans (idx_parts _), h4, h5, h6⟩
  clear h0 h3 h4 h5 h6 h
  sl_kernel_rfl
end Parts

theorem quant_apply (x : FVec Ideal S8x16x256x256 .f32) (l g : FVec Ideal S_ .f32) (n : Fin 8) (a : Fin 16) (h w : Fin 256) :
    quant x l g (ix4 n a h w) = Ideal.fptosi 32 (bin (l ix0) (g ix0) (x (ix4 n a h w))) := by
  pointwise [quant]
  rw [ofBits_8]
  rfl

/-- What lies below the least entry lies below every entry. -/
theorem least_bound (x : FVec Ideal S8x16x256x256 .f32) (r : EReal) :
    r ≤ least x ix0 ↔ ∀ (n : Fin 8) (a : Fin 16) (h w : Fin 256), r ≤ (x (ix4 n a h w) : EReal) := by
  pointwise [least]
  rw [ofBits_top, Finset.le_fold_min]
  simp only [le_top, true_and, Finset.mem_filter, Finset.mem_univ]
  constructor
  · intro H n a h w
    exact H (ix4 n a h w) (funext fun a => a.elim0)
  · intro H i _
    rw [eq_ix4 i]
    exact H _ _ _ _

/-- What lies above the greatest entry lies above every entry. -/
theorem greatest_bound (x : FVec Ideal S8x16x256x256 .f32) (r : EReal) :
    greatest x ix0 ≤ r ↔ ∀ (n : Fin 8) (a : Fin 16) (h w : Fin 256), (x (ix4 n a h w) : EReal) ≤ r := by
  pointwise [greatest]
  rw [ofBits_bot, Finset.fold_max_le]
  simp only [bot_le, true_and, Finset.mem_filter, Finset.mem_univ]
  constructor
  · intro H n a h w
    exact H (ix4 n a h w) (funext fun a => a.elim0)
  · intro H i _
    rw [eq_ix4 i]
    exact H _ _ _ _

theorem tap_apply (f : FVec Ideal S3x3x3 .f32) (p : FVec Ideal S8x8x18x258x258 .f32) (i j k : Fin 3) (h1 : S3x3x3.Slices ![i, j, k] S1x1x1)
    (h2 : S8x8x18x258x258.Slices ![0, 0, i, j, k] S8x8x16x256x256) (q n : Fin 8) (a : Fin 16) (h w : Fin 256) :
    tap f p i j k h1 h2 (ix5 q n a h w) = f (ix3 i j k) * p (ix5 q n ⟨i + a, by omega⟩ ⟨j + h, by omega⟩ ⟨k + w, by omega⟩) := by
  pointwise [tap]

/-- The column an entry's bin takes. -/
def column (b : BitVec 32) : Fin 8 :=
  ⟨min (Scalar.select (IntOp.cmpi .slt b 0#32) (b + 8#32) b).toInt.toNat 7, by omega⟩

theorem columns_apply (b : IVec S8x16x256x256 32) (n : Fin 8) (a : Fin 16) (h w : Fin 256) :
    columns b (ix5 n a h w 0) = Scalar.select (IntOp.cmpi .slt (b (ix4 n a h w)) 0#32) (b (ix4 n a h w) + 8#32) (b (ix4 n a h w)) := by
  pointwise [columns]
  rfl

set_option backward.isDefEq.respectTransparency false in
theorem padded_apply (co : FVec Ideal S8x8 .f32) (x : FVec Ideal S8x16x256x256 .f32) (b : IVec S8x16x256x256 32) (q n : Fin 8)
    (a : Fin 18) (h w : Fin 258) : padded co x b (ix5 q n a h w)
      = cell (fun a h w => co (ix2 q (column (b (ix4 n a h w)))) * x (ix4 n a h w)) a h w := by
  have ha := a.isLt; have hh := h.isLt; have hw := w.isLt
  pointwise [padded]
  unfold cell
  by_cases H : (1 ≤ (a : ℕ) ∧ (a : ℕ) - 1 < 16) ∧ (1 ≤ (h : ℕ) ∧ (h : ℕ) - 1 < 256) ∧ 1 ≤ (w : ℕ) ∧ (w : ℕ) - 1 < 256
  · rw [dif_pos H, dif_pos (by omega)]
    refine congrArg (fun r : EReal => r * x (ix4 n ⟨a - 1, by omega⟩ ⟨h - 1, by omega⟩ ⟨w - 1, by omega⟩))
      ((gather_apply co (columns b) q n ⟨a - 1, by omega⟩ ⟨h - 1, by omega⟩ ⟨w - 1, by omega⟩).trans ?_)
    refine congrArg (fun c => co (ix2 q c)) (Fin.ext ?_)
    exact congrArg (fun v : BitVec 32 => min v.toInt.toNat 7) (columns_apply b n ⟨a - 1, by omega⟩ ⟨h - 1, by omega⟩ ⟨w - 1, by omega⟩)
  · rw [dif_neg H, dif_neg (by omega)]
    show (((0#32 : BitVec 32).toInt : ℝ) : EReal) = 0
    simp

/-- One where the word `b` is the row's number `q`, else zero. -/
def hit (b : BitVec 32) (q : Fin 8) : EReal :=
  FloatOps.uitofp (F := Ideal) .f32 (IntOp.cmpi .eq b (BitVec.ofNat 32 q))

theorem summed_apply (b : IVec S8x16x256x256 32) (s : FVec Ideal S8x8x16x256x256 .f32) (n : Fin 8) (a : Fin 16) (h w : Fin 256) :
    summed b s (ix4 n a h w) = ∑ q : Fin 8, hit (b (ix4 n a h w)) q * s (ix5 q n a h w) := by
  pointwise [summed, mask]
  rfl

/-- The filter's entries in one row. -/
def flat (f : FVec Ideal S3x3x3 .f32) (t : Fin 27) : EReal :=
  f (ix3 ⟨t / 9, by omega⟩ ⟨t / 3 % 3, by omega⟩ ⟨t % 3, by omega⟩)

/-- The 27 products at an index: the sum over the filter's three axes. -/
theorem filtered_apply (f : FVec Ideal S3x3x3 .f32) (p : FVec Ideal S8x8x18x258x258 .f32) (g : ℕ → ℕ → ℕ → EReal) (q n : Fin 8)
    (H : ∀ (a : Fin 18) (h w : Fin 258), p (ix5 q n a h w) = g a h w) (a : Fin 16) (h w : Fin 256) :
    filtered f p (ix5 q n a h w) = conv (flat f) g a h w := by
  have T : ∀ (i j k : ℕ) (hi : i < 3) (hj : j < 3) (hk : k < 3) (h1 : S3x3x3.Slices ![i, j, k] S1x1x1)
      (h2 : S8x8x18x258x258.Slices ![0, 0, i, j, k] S8x8x16x256x256),
      tap f p i j k h1 h2 (ix5 q n a h w) = f (ix3 ⟨i, hi⟩ ⟨j, hj⟩ ⟨k, hk⟩) * g (i + a) (j + h) (k + w) := fun i j k hi hj hk h1 h2 => by
    refine (tap_apply f p ⟨i, hi⟩ ⟨j, hj⟩ ⟨k, hk⟩ h1 h2 q n a h w).trans ?_
    rw [H]
  pointwise [filtered]
  simp (discharger := decide) only [T]
  refine (regroup3 (fun i j k => f (ix3 i j k) * g (i + a) (j + h) (k + w))).trans ?_
  unfold conv flat
  refine Finset.sum_congr rfl fun i _ => Finset.sum_congr rfl fun j _ => Finset.sum_congr rfl fun k _ => ?_
  have hi := i.isLt; have hj := j.isLt; have hk := k.isLt
  have ei : (⟨(i * 9 + j * 3 + k : ℕ) / 9, by omega⟩ : Fin 3) = i := Fin.ext (by show (i * 9 + j * 3 + k : ℕ) / 9 = i; omega)
  have ej : (⟨(i * 9 + j * 3 + k : ℕ) / 3 % 3, by omega⟩ : Fin 3) = j := Fin.ext (by show (i * 9 + j * 3 + k : ℕ) / 3 % 3 = j; omega)
  have ek : (⟨(i * 9 + j * 3 + k : ℕ) % 3, by omega⟩ : Fin 3) = k := Fin.ext (by show (i * 9 + j * 3 + k : ℕ) % 3 = k; omega)
  simp only [ei, ej, ek]

/-- The last result at an index. -/
theorem outIdx_apply (x : FVec Ideal S8x16x256x256 .f32) (n : Fin 8) (a : Fin 16) (h w : Fin 256) :
    outIdx x (ix4 n a h w) = Ideal.fptosi 32 (bin (least x ix0) (greatest x ix0) (x (ix4 n a h w))) :=
  quant_apply x (least x) (greatest x) n a h w

/-- The first result at an index. -/
theorem outVal_apply (x : FVec Ideal S8x16x256x256 .f32) (co : FVec Ideal S8x8 .f32) (f : FVec Ideal S3x3x3 .f32) (n : Fin 8) (a : Fin 16) (h w : Fin 256) :
    outVal x co f (ix4 n a h w) = ∑ q : Fin 8, hit (outIdx x (ix4 n a h w)) q
      * conv (flat f) (cell fun a h w => co (ix2 q (column (outIdx x (ix4 n a h w)))) * x (ix4 n a h w)) a h w := by
  unfold outVal
  rw [summed_apply]
  refine Finset.sum_congr rfl fun q _ => ?_
  rw [filtered_apply f _ _ q n (padded_apply co x (outIdx x) q n) a h w]

end Cert.ReferenceIdeal.Reading
end
-- ==== Proof.Math.lean ====
/- The two outputs at a position agree over the reals: the kernel's sum over the eight bins of weight times filter of the entries kept
   for the bin is the filter of the entries weighted by their own bins' columns. -/
module

public import proofs.«01_k».proof.Proof.Cells
public import proofs.«01_k».proof.Proof.Ref

@[expose] public section

set_option maxRecDepth 16384

noncomputable section

namespace Cert.Math

open Idealize.ShloMosaic Cert.Cells
open Cert.ReferenceIdeal.Reading (column hit)

/-! ## Filtering real numbers -/

/-- The 27 products over the reals. -/
def convR (f : Fin 27 → ℝ) (g : ℕ → ℕ → ℕ → ℝ) (a h w : ℕ) : ℝ :=
  ∑ i : Fin 3, ∑ j : Fin 3, ∑ k : Fin 3, f ⟨i * 9 + j * 3 + k, by omega⟩ * g (i + a) (j + h) (k + w)

theorem conv_coe (f : Fin 27 → ℝ) (g : ℕ → ℕ → ℕ → ℝ) (a h w : ℕ) :
    conv (fun t => (f t : EReal)) (fun a h w => (g a h w : EReal)) a h w = (convR f g a h w : EReal) := by
  simp only [conv, convR, Fin.sum_univ_three, EReal.coe_add, EReal.coe_mul]

/-- Filtering is linear. -/
theorem convR_sum (f : Fin 27 → ℝ) (c : Fin 8 → ℝ) (g : Fin 8 → ℕ → ℕ → ℕ → ℝ) (a h w : ℕ) :
    ∑ B, c B * convR f (g B) a h w = convR f (fun a h w => ∑ B, c B * g B a h w) a h w := by
  unfold convR
  simp only [Finset.mul_sum]
  rw [Finset.sum_comm]
  refine Finset.sum_congr rfl fun i _ => ?_
  rw [Finset.sum_comm]
  refine Finset.sum_congr rfl fun j _ => ?_
  rw [Finset.sum_comm]
  refine Finset.sum_congr rfl fun k _ => Finset.sum_congr rfl fun B _ => ?_
  ring

/-- A padded image of reals. -/
def cellR (X : Fin 16 → Fin 256 → Fin 256 → ℝ) (a h w : ℕ) : ℝ :=
  if H : (1 ≤ a ∧ a ≤ 16) ∧ (1 ≤ h ∧ h ≤ 256) ∧ (1 ≤ w ∧ w ≤ 256) then
    X ⟨a - 1, by omega⟩ ⟨h - 1, by omega⟩ ⟨w - 1, by omega⟩
  else 0

theorem cell_coe (X : Fin 16 → Fin 256 → Fin 256 → ℝ) (a h w : ℕ) :
    cell (fun a h w => (X a h w : EReal)) a h w = (cellR X a h w : EReal) := by
  unfold cell cellR
  split
  · rfl
  · exact EReal.coe_zero.symm

/-! ## The eight bins -/

/-- The entry `r` where its bin is `B` (for `B = 7`: is at least 7), else zero. -/
def keptBin (lo hi : EReal) (B : Fin 8) (r : EReal) : EReal :=
  (![kept .oeq 0x0000#16 lo hi, kept .oeq 0x3F80#16 lo hi, kept .oeq 0x4000#16 lo hi, kept .oeq 0x4040#16 lo hi, kept .oeq 0x4080#16 lo hi,
    kept .oeq 0x40A0#16 lo hi, kept .oeq 0x40C0#16 lo hi, kept .oge 0x40E0#16 lo hi] : Fin 8 → EReal → EReal) B r

theorem keptBin_zero (lo hi : EReal) (B : Fin 8) : keptBin lo hi B 0 = 0 := by
  fin_cases B <;> exact kept_zero _ _ _ _

/-- The kernel's output as a sum over the bins. -/
theorem mixed_sum (c : Fin 64 → EReal) (f : Fin 27 → EReal) (lo hi : EReal) (X : Fin 16 → Fin 256 → Fin 256 → EReal)
    (a : Fin 16) (h w : Fin 256) : mixed c f lo hi X a h w
      = ∑ B : Fin 8, picked (fun A => c ⟨8 * A + B, by omega⟩) (bin lo hi (X a h w)) * conv f (fun a h w => keptBin lo hi B (cell X a h w)) a h w := by
  rw [Fin.sum_univ_eight]
  rfl

theorem picked_ne (c : Fin 8 → EReal) (b : EReal) (H : ∀ A : Fin 8, b ≠ ((A.val : ℝ) : EReal)) : picked c b = 0 := by
  have h0 : b ≠ 0 := by simpa using H 0
  have h1 : b ≠ 1 := by simpa using H 1
  have h2 : b ≠ ((2 : ℝ) : EReal) := by simpa using H 2
  have h3 : b ≠ ((3 : ℝ) : EReal) := by simpa using H 3
  have h4 : b ≠ ((4 : ℝ) : EReal) := by simpa using H 4
  have h5 : b ≠ ((5 : ℝ) : EReal) := by simpa using H 5
  have h6 : b ≠ ((6 : ℝ) : EReal) := by simpa using H 6
  have h7 : b ≠ ((7 : ℝ) : EReal) := by simpa using H 7
  unfold picked
  rw [if_neg h0, if_neg h1, if_neg h2, if_neg h3, if_neg h4, if_neg h5, if_neg h6, if_neg h7]

theorem picked_eq (c : Fin 8 → EReal) (A : Fin 8) : picked c ((A.val : ℝ) : EReal) = c A := by
  have e0 : (0 : EReal) = ((0 : ℝ) : EReal) := rfl
  have e1 : (1 : EReal) = ((1 : ℝ) : EReal) := rfl
  unfold picked
  rw [e0, e1]
  simp only [EReal.coe_eq_coe_iff]
  fin_cases A <;> norm_num <;> rfl

/-! ## One entry's bin, where the greatest entry is positive -/

/-- The whole number below `(r - l) / m * 8`. -/
def num (l m r : ℝ) : ℤ := ⌊(r - l) / m * 8⌋

theorem bin_coe (l m r : ℝ) (hm : 0 < m) : bin l m r = (((num l m r : ℤ) : ℝ) : EReal) := by
  unfold bin num
  rw [← EReal.coe_sub, Ideal.div_coe hm.ne', ← EReal.coe_mul, show (8 : EReal) = ((8 : ℝ) : EReal) from rfl, ← EReal.coe_mul,
    Ideal.liftRound_coe, mul_one_div]

theorem num_nonneg (l m r : ℝ) (hm : 0 < m) (hr : l ≤ r) : 0 ≤ num l m r :=
  Int.floor_nonneg.mpr (mul_nonneg (div_nonneg (sub_nonneg.mpr hr) hm.le) (by norm_num))

/-- The bin's column: the bin itself below 8, and 7 from there on. -/
def col (N : ℤ) : Fin 8 := ⟨min N.toNat 7, by omega⟩

theorem kept_oeq (W : BitVec 16) (B : ℕ) (hW : Ideal.ofBits .bf16 W = ((B : ℝ) : EReal)) (l m r : ℝ) (hm : 0 < m) :
    kept .oeq W l m r = ((if num l m r = B then r else 0 : ℝ) : EReal) := by
  unfold kept Scalar.select Ideal.cmp
  rw [bin_coe l m r hm, hW]
  simp only [EReal.coe_eq_coe_iff]
  by_cases H : num l m r = B
  · have : ((num l m r : ℤ) : ℝ) = (B : ℝ) := by rw [H]; simp
    simp [H]
  · have : ¬((num l m r : ℤ) : ℝ) = (B : ℝ) := fun h => H (by exact_mod_cast h)
    simp [H, this]

theorem kept_oge (W : BitVec 16) (B : ℕ) (hW : Ideal.ofBits .bf16 W = ((B : ℝ) : EReal)) (l m r : ℝ) (hm : 0 < m) :
    kept .oge W l m r = ((if (B : ℤ) ≤ num l m r then r else 0 : ℝ) : EReal) := by
  unfold kept Scalar.select Ideal.cmp
  rw [bin_coe l m r hm, hW]
  simp only [EReal.coe_le_coe_iff]
  by_cases H : (B : ℤ) ≤ num l m r
  · have : (B : ℝ) ≤ ((num l m r : ℤ) : ℝ) := by exact_mod_cast H
    simp [H, this]
  · have : ¬(B : ℝ) ≤ ((num l m r : ℤ) : ℝ) := fun h => H (by exact_mod_cast h)
    simp [H, this]

/-- An entry is kept for the bin that is its column, and for no other. -/
theorem keptBin_coe (l m r : ℝ) (hm : 0 < m) (hr : l ≤ r) (B : Fin 8) :
    keptBin l m B r = ((if col (num l m r) = B then r else 0 : ℝ) : EReal) := by
  have hN := num_nonneg l m r hm hr
  have key : ∀ (p q : Prop) [Decidable p] [Decidable q], (p ↔ q) → ((if p then r else 0 : ℝ) : EReal) = ((if q then r else 0 : ℝ) : EReal) := by
    intro p q _ _ h
    by_cases hp : p
    · rw [if_pos hp, if_pos (h.mp hp)]
    · rw [if_neg hp, if_neg (fun hq => hp (h.mpr hq))]
  have hc : ∀ B : Fin 8, col (num l m r) = B ↔ min (num l m r).toNat 7 = B.val := fun B => Fin.ext_iff
  fin_cases B
  · exact (kept_oeq _ 0 (by simpa using ofBits_b0) l m r hm).trans (key _ _ (by rw [hc]; show _ ↔ _ = 0; omega))
  · exact (kept_oeq _ 1 (by simpa using ofBits_b1) l m r hm).trans (key _ _ (by rw [hc]; show _ ↔ _ = 1; omega))
  · exact (kept_oeq _ 2 (by simpa using ofBits_b2) l m r hm).trans (key _ _ (by rw [hc]; show _ ↔ _ = 2; omega))
  · exact (kept_oeq _ 3 (by simpa using ofBits_b3) l m r hm).trans (key _ _ (by rw [hc]; show _ ↔ _ = 3; omega))
  · exact (kept_oeq _ 4 (by simpa using ofBits_b4) l m r hm).trans (key _ _ (by rw [hc]; show _ ↔ _ = 4; omega))
  · exact (kept_oeq _ 5 (by simpa using ofBits_b5) l m r hm).trans (key _ _ (by rw [hc]; show _ ↔ _ = 5; omega))
  · exact (kept_oeq _ 6 (by simpa using ofBits_b6) l m r hm).trans (key _ _ (by rw [hc]; show _ ↔ _ = 6; omega))
  · exact (kept_oge _ 7 (by simpa using ofBits_b7) l m r hm).trans (key _ _ (by rw [hc]; show _ ↔ _ = 7; omega))

/-! ## The word that holds a bin -/

theorem word_toInt (N : ℤ) (hN : 0 ≤ N) : (Ideal.fptosi 32 (((N : ℤ) : ℝ) : EReal)).toInt = min 2147483647 N := by
  unfold Ideal.fptosi
  rw [Ideal.toIntClamped_coe, if_pos (by exact_mod_cast hN), Int.floor_intCast, BitVec.toInt_ofInt]
  norm_num [Int.bmod]
  omega

theorem column_word (N : ℤ) (hN : 0 ≤ N) : column (Ideal.fptosi 32 (((N : ℤ) : ℝ) : EReal)) = col N := by
  have h := word_toInt N hN
  have hs : IntOp.cmpi .slt (Ideal.fptosi 32 (((N : ℤ) : ℝ) : EReal)) 0#32 = 0#1 := by
    have : ¬ (Ideal.fptosi 32 (((N : ℤ) : ℝ) : EReal)).toInt < (0#32 : BitVec 32).toInt := by
      rw [h]; simp; omega
    simp only [IntOp.cmpi, BitVec.slt, decide_eq_false this]
    rfl
  have hsel : Scalar.select (IntOp.cmpi .slt (Ideal.fptosi 32 (((N : ℤ) : ℝ) : EReal)) 0#32) (Ideal.fptosi 32 (((N : ℤ) : ℝ) : EReal) + 8#32)
      (Ideal.fptosi 32 (((N : ℤ) : ℝ) : EReal)) = Ideal.fptosi 32 (((N : ℤ) : ℝ) : EReal) := by
    rw [hs]
    exact if_neg (by decide)
  refine Fin.ext ?_
  show min (BitVec.toInt (Scalar.select _ _ _)).toNat 7 = min N.toNat 7
  rw [hsel, h]
  omega

theorem hit_of_eq (b : BitVec 32) (q : Fin 8) (h : b.toInt = q.val) : hit b q = 1 := by
  have : b = BitVec.ofNat 32 q := BitVec.eq_of_toInt_eq (by
    rw [h]; clear h; revert q; decide)
  unfold hit
  rw [this]
  simp [IntOp.cmpi, FloatOps.uitofp]

theorem hit_of_ne (b : BitVec 32) (q : Fin 8) (h : b.toInt ≠ q.val) : hit b q = 0 := by
  have : b ≠ BitVec.ofNat 32 q := fun e => h (by rw [e]; clear e h; revert q; decide)
  unfold hit
  simp [IntOp.cmpi, FloatOps.uitofp, this]

/-! ## The two outputs -/

/-- The reference's output at a position, of a padded image's entries, its weights and its filter. -/
def blended (co : Fin 8 → Fin 8 → EReal) (f : Fin 27 → EReal) (lo hi : EReal) (X : Fin 16 → Fin 256 → Fin 256 → EReal)
    (a : Fin 16) (h w : Fin 256) : EReal :=
  ∑ q : Fin 8, hit (Ideal.fptosi 32 (bin lo hi (X a h w))) q
    * conv f (cell fun a h w => co q (column (Ideal.fptosi 32 (bin lo hi (X a h w)))) * X a h w) a h w

/-- Where the middle's bin is none of the eight numbers, both outputs are zero. -/
theorem both_zero (co : Fin 8 → Fin 8 → EReal) (c : Fin 64 → EReal) (f : Fin 27 → EReal) (lo hi : EReal)
    (X : Fin 16 → Fin 256 → Fin 256 → EReal) (a : Fin 16) (h w : Fin 256)
    (H1 : ∀ A : Fin 8, bin lo hi (X a h w) ≠ ((A.val : ℝ) : EReal))
    (H2 : ∀ A : Fin 8, (Ideal.fptosi 32 (bin lo hi (X a h w))).toInt ≠ A.val) :
    mixed c f lo hi X a h w = blended co f lo hi X a h w := by
  rw [mixed_sum]
  unfold blended
  refine Finset.sum_congr rfl fun B _ => ?_
  rw [picked_ne _ _ H1, hit_of_ne _ B (H2 B), zero_mul, zero_mul]

theorem both (co : Fin 8 → Fin 8 → ℝ) (f : Fin 27 → ℝ) (l m : ℝ) (X : Fin 16 → Fin 256 → Fin 256 → ℝ)
    (hm : 0 ≤ m) (hl : ∀ a h w, l ≤ X a h w) (c : Fin 64 → EReal) (hc : ∀ A B : Fin 8, c ⟨8 * A + B, by omega⟩ = (co A B : EReal))
    (a : Fin 16) (h w : Fin 256) :
    mixed c (fun t => (f t : EReal)) l m (fun a h w => (X a h w : EReal)) a h w
      = blended (fun A B => (co A B : EReal)) (fun t => (f t : EReal)) l m (fun a h w => (X a h w : EReal)) a h w := by
  rcases hm.eq_or_lt with rfl | hm
  · -- the greatest entry is zero: every bin is an infinity
    have hb : bin l ((0 : ℝ) : EReal) (X a h w) = ⊤ ∨ bin l ((0 : ℝ) : EReal) (X a h w) = ⊥ := by
      unfold bin Ideal.div
      rw [if_pos (by rfl)]
      split
      · left
        rw [EReal.top_mul_of_pos (by norm_num)]; rfl
      · right
        rw [EReal.bot_mul_of_pos (by norm_num)]; rfl
    refine both_zero _ _ _ _ _ _ a h w (fun A => ?_) (fun A => ?_)
    · rcases hb with hb | hb <;> rw [hb]
      · exact (EReal.coe_ne_top _).symm
      · exact (EReal.coe_ne_bot _).symm
    · rcases hb with hb | hb <;> rw [hb] <;> revert A <;> decide
  · have hN := num_nonneg l m (X a h w) hm (hl a h w)
    have hb := bin_coe l m (X a h w) hm
    by_cases h8 : num l m (X a h w) < 8
    · -- the middle's bin is one of the eight
      obtain ⟨A, hA⟩ : ∃ A : Fin 8, num l m (X a h w) = A.val :=
        ⟨⟨(num l m (X a h w)).toNat, by omega⟩, by show _ = (((num l m (X a h w)).toNat : ℕ) : ℤ); omega⟩
      have hbA : bin l m (X a h w) = ((A.val : ℝ) : EReal) := by rw [hb, hA]; simp
      have hword : (Ideal.fptosi 32 (bin l m (X a h w))).toInt = A.val := by
        rw [hb, word_toInt _ hN, hA]; have := A.isLt; omega
      -- the weighted entries of the reference, over the reals
      have hcell : (cell fun a h w => (co A (column (Ideal.fptosi 32 (bin l m (X a h w)))) : EReal) * (X a h w : EReal))
          = fun a h w => ((cellR (fun a h w => co A (col (num l m (X a h w))) * X a h w) a h w : ℝ) : EReal) := by
        funext a h w
        rw [← cell_coe]
        congr 1
        funext a h w
        rw [bin_coe l m _ hm, column_word _ (num_nonneg l m _ hm (hl a h w)), EReal.coe_mul]
      -- the kept entries of the kernel, over the reals
      have hkept : ∀ B : Fin 8, (fun a h w => keptBin l m B (cell (fun a h w => (X a h w : EReal)) a h w))
          = fun a h w => ((cellR (fun a h w => if col (num l m (X a h w)) = B then X a h w else 0) a h w : ℝ) : EReal) := by
        intro B
        funext a h w
        unfold cell cellR
        split
        · exact keptBin_coe l m _ hm (hl _ _ _) B
        · exact (keptBin_zero _ _ B).trans EReal.coe_zero.symm
      have hR : blended (fun A B => (co A B : EReal)) (fun t => (f t : EReal)) l m (fun a h w => (X a h w : EReal)) a h w
          = ((convR f (cellR fun a h w => co A (col (num l m (X a h w))) * X a h w) a h w : ℝ) : EReal) := by
        unfold blended
        rw [Finset.sum_eq_single A (fun q _ hq => by
            rw [hit_of_ne _ q (by rw [hword]; intro e; exact hq (Fin.ext (by exact_mod_cast e.symm))), zero_mul])
          (fun h => absurd (Finset.mem_univ A) h), hit_of_eq _ A hword, one_mul, hcell, conv_coe]
      have hK : mixed c (fun t => (f t : EReal)) l m (fun a h w => (X a h w : EReal)) a h w
          = ((∑ B : Fin 8, co A B * convR f (cellR fun a h w => if col (num l m (X a h w)) = B then X a h w else 0) a h w : ℝ) : EReal) := by
        rw [mixed_sum, hbA]
        simp only [picked_eq, hc, hkept, conv_coe]
        simp only [Fin.sum_univ_eight, EReal.coe_add, EReal.coe_mul]
      rw [hR, hK, convR_sum]
      refine congrArg (fun g => ((convR f g a h w : ℝ) : EReal)) ?_
      funext a h w
      unfold cellR
      split
      · simp [mul_ite]
      · simp
    · refine both_zero _ _ _ _ _ _ a h w (fun A => ?_) (fun A => ?_)
      · rw [hb]
        intro e
        have e' := EReal.coe_eq_coe_iff.mp e
        have : num l m (X a h w) = A.val := by exact_mod_cast e'
        have := A.isLt
        omega
      · rw [hb, word_toInt _ hN]
        have := A.isLt
        omega

end Cert.Math
end
-- ==== Proof.Agree.lean ====
/- The kernel's two results are the reference's, index by index: first the least and greatest entries, then the outputs. -/
module

public import proofs.«01_k».proof.Proof.Whole
public import proofs.«01_k».proof.Proof.Block
public import proofs.«01_k».proof.Proof.MinMax
public import proofs.«01_k».proof.Proof.Math
public import proofs.«01_k».proof.Pre_finite_and_max_nonneg

@[expose] public section

set_option maxRecDepth 16384

noncomputable section

namespace Cert.Agree

open Idealize.ShloMosaic Idealize.ShloMosaic.Tactic Cert.Cells Cert.Math
open Cert.KernelIdeal Cert.KernelIdeal.Gen Cert.KernelIdeal.Val
open Cert.ReferenceIdeal.Reading (least greatest column hit flat least_bound greatest_bound outIdx_apply outVal_apply)

/-! ## The precondition -/

instance preFacts : Cert.Pre_finite_and_max_nonneg.Facts where
  bcast_S_S8x16x256x256 := by decide
  bcast_S_S8x8 := by decide
  bcast_S_S3x3x3 := by decide
  reducesTo_S8x16x256x256_S_d0_1_2_3 := by decide
  h_S_ := by decide

/-- A number whose absolute value compares less than infinity is a real number. -/
theorem real_of_lt (y : EReal) (h : Ideal.cmp .olt (max y (-y)) (Ideal.ofBits .f32 0x7F800000#32) = 1#1) : ∃ r : ℝ, y = r := by
  rw [ofBits_top] at h
  induction y with
  | bot => simp [Ideal.cmp] at h
  | top => simp [Ideal.cmp] at h
  | coe r => exact ⟨r, rfl⟩

theorem ofBits_0 : Ideal.ofBits .f32 0x00000000#32 = (0 : EReal) := by simp [Ideal.ofBits, Ideal.ieee]

/-- A number that compares as at least zero is not negative. -/
theorem nonneg_of (g : FVec Ideal Cert.ReferenceIdeal.S_ .f32)
    (h : cmpf .oge g (constant Cert.ReferenceIdeal.S_ .f32 0x00000000#32) = fun _ => 1#1) : (0 : EReal) ≤ g ix0 := by
  have e : Ideal.cmp .oge (g ix0) (Ideal.ofBits .f32 0x00000000#32) = 1#1 := congrFun h ix0
  rw [ofBits_0] at e
  by_contra hn
  simp [Ideal.cmp, hn] at e

/-- The precondition's last mask compares the reference's own greatest entry with zero. -/
theorem pre_last {F : FTy → Type} [FloatOps F] (x : FVec F Cert.ReferenceIdeal.S8x16x256x256 .f32) (co : FVec F Cert.ReferenceIdeal.S8x8 .f32)
    (f : FVec F Cert.ReferenceIdeal.S3x3x3 .f32) : (Cert.Pre_finite_and_max_nonneg.fn x co f).2.2.2
      = cmpf .oge (greatest x) (constant Cert.ReferenceIdeal.S_ .f32 0x00000000#32) := by
  sl_kernel_rfl

/-- What the precondition says of the three arrays: every entry is a real number and the greatest entry is not negative. -/
theorem pre_facts (x : Vec Ideal S8x16x256x256 .f32) (co : Vec Ideal S8x8 .f32) (f : Vec Ideal S3x3x3 .f32)
    (h : (Cert.Pre_finite_and_max_nonneg.fn (F := Ideal) x co f).1 = (fun _ => 1#1)
      ∧ (Cert.Pre_finite_and_max_nonneg.fn (F := Ideal) x co f).2.1 = (fun _ => 1#1)
      ∧ (Cert.Pre_finite_and_max_nonneg.fn (F := Ideal) x co f).2.2.1 = (fun _ => 1#1)
      ∧ (Cert.Pre_finite_and_max_nonneg.fn (F := Ideal) x co f).2.2.2 = (fun _ => 1#1)) :
    (∀ i, ∃ r : ℝ, (x i : EReal) = r) ∧ (∀ i, ∃ r : ℝ, (co i : EReal) = r) ∧ (∀ i, ∃ r : ℝ, (f i : EReal) = r)
      ∧ (0 : EReal) ≤ greatest (F := Ideal) x ix0 := by
  obtain ⟨h0, h1, h2, h3⟩ := h
  refine ⟨fun i => real_of_lt _ (congrFun h0 i), fun i => real_of_lt _ (congrFun h1 i), fun i => real_of_lt _ (congrFun h2 i), ?_⟩
  exact nonneg_of (greatest (F := Ideal) x) (by rw [← pre_last (F := Ideal) x co f]; exact h3)

/-! ## The least and the greatest entry -/

theorem least_eq (x : Vec Ideal S8x16x256x256 .f32) : k1_pay2 (leasts x) = least x ix0 := by
  refine eq_of_forall_le_iff fun r => ?_
  rw [k1_pay2_bound, least_bound]
  constructor
  · intro H n a h w
    have := H n 0
    rw [leasts_at x (ix3 n 0 0) n 0 rfl rfl, k0_pay2_bound] at this
    exact this a h w
  · intro H n j
    rw [leasts_at x (ix3 n 0 j) n j rfl rfl, k0_pay2_bound]
    exact fun a h w => H n a h w

theorem greatest_eq (x : Vec Ideal S8x16x256x256 .f32) : k1_pay3 (greatests x) = greatest x ix0 := by
  refine eq_of_forall_ge_iff fun r => ?_
  rw [k1_pay3_bound, greatest_bound]
  constructor
  · intro H n a h w
    have := H n 0
    rw [greatests_at x (ix3 n 0 0) n 0 rfl rfl, k0_pay3_bound] at this
    exact this a h w
  · intro H n j
    rw [greatests_at x (ix3 n 0 j) n j rfl rfl, k0_pay3_bound]
    exact fun a h w => H n a h w

/-- The least of reals is a real below them all; the greatest, where it is not negative, a real from zero on. -/
theorem bounds (x : Vec Ideal S8x16x256x256 .f32) (X : S8x16x256x256.Idx → ℝ) (hx : ∀ i, (x i : EReal) = X i) (hg : (0 : EReal) ≤ greatest (F := Ideal) x ix0) :
    ∃ l m : ℝ, (least (F := Ideal) x ix0 : EReal) = l ∧ (greatest (F := Ideal) x ix0 : EReal) = m ∧ 0 ≤ m ∧ ∀ i, l ≤ X i := by
  have hl : ∀ n a h w, (least (F := Ideal) x ix0 : EReal) ≤ x (ix4 n a h w) := (least_bound x _).mp le_rfl
  have hh : ∀ n a h w, (x (ix4 n a h w) : EReal) ≤ greatest (F := Ideal) x ix0 := (greatest_bound x _).mp le_rfl
  obtain ⟨L, hL⟩ : ∃ L : ℝ, ∀ i, L ≤ X i := ((Set.finite_range X).bddBelow).imp fun L h i => h ⟨i, rfl⟩
  obtain ⟨U, hU⟩ : ∃ U : ℝ, ∀ i, X i ≤ U := ((Set.finite_range X).bddAbove).imp fun L h i => h ⟨i, rfl⟩
  have hLl : ((L : ℝ) : EReal) ≤ least (F := Ideal) x ix0 := (least_bound x _).mpr fun n a h w => by
    rw [hx]; exact_mod_cast hL _
  have hgU : (greatest (F := Ideal) x ix0 : EReal) ≤ (U : ℝ) := (greatest_bound x _).mpr fun n a h w => by
    rw [hx]; exact_mod_cast hU _
  obtain ⟨l, el⟩ : ∃ l : ℝ, (least (F := Ideal) x ix0 : EReal) = l :=
    ⟨_, (EReal.coe_toReal (ne_of_lt (lt_of_le_of_lt (hl 0 0 0 0) (by rw [hx]; exact EReal.coe_lt_top _)))
      (ne_of_gt (lt_of_lt_of_le (EReal.bot_lt_coe L) hLl))).symm⟩
  obtain ⟨m, em⟩ : ∃ m : ℝ, (greatest (F := Ideal) x ix0 : EReal) = m :=
    ⟨_, (EReal.coe_toReal (ne_of_lt (lt_of_le_of_lt hgU (EReal.coe_lt_top U)))
      (ne_of_gt (lt_of_lt_of_le EReal.bot_lt_zero hg))).symm⟩
  refine ⟨l, m, el, em, ?_, fun i => ?_⟩
  · rw [em] at hg; exact_mod_cast hg
  · have := hl (i 0) (i 1) (i 2) (i 3)
    rw [← eq_ix4 i, el, hx] at this
    exact_mod_cast this

/-! ## The weights and the filter in a row -/

theorem row64_apply (co : Vec Ideal S8x8 .f32) (A B : Fin 8) : row64 co (ix1 ⟨8 * A + B, by omega⟩) = co (ix2 A B) := by
  pointwise [row64]

theorem row27_apply (f : Vec Ideal S3x3x3 .f32) (t : Fin 27) : row27 f (ix1 t) = flat f t := by
  unfold flat
  pointwise [row27]

/-! ## The two results -/

theorem img_image (x : Vec Ideal S8x16x256x256 .f32) (n : Fin 8) : img (image x n) = fun a h w => x (ix4 n a h w) := rfl

theorem idx_at (x : Vec Ideal S8x16x256x256 .f32) (n : Fin 8) (a : Fin 16) (h w : Fin 256) :
    Val.outIdx x (ix4 n a h w) = Cert.ReferenceIdeal.Reading.outIdx (F := Ideal) x (ix4 n a h w) := by
  refine (laid_at (binBlock (leasts x) (greatests x) x) (ix4 n a h w) n a h w rfl rfl rfl rfl).trans ?_
  unfold binBlock
  rw [idxBlock_apply, least_eq, greatest_eq, img_image]
  exact (outIdx_apply x n a h w).symm

/-- The bins are the reference's. -/
theorem idx_eq (x : Vec Ideal S8x16x256x256 .f32) : Val.outIdx x = Cert.ReferenceIdeal.Reading.outIdx (F := Ideal) x :=
  funext fun i => (congrArg _ (eq_ix4 i)).trans ((idx_at x (i 0) (i 1) (i 2) (i 3)).trans (congrArg _ (eq_ix4 i).symm))

theorem val_at (x : Vec Ideal S8x16x256x256 .f32) (co : Vec Ideal S8x8 .f32) (f : Vec Ideal S3x3x3 .f32)
    (hx : ∀ i, ∃ r : ℝ, (x i : EReal) = r) (hco : ∀ i, ∃ r : ℝ, (co i : EReal) = r) (hf : ∀ i, ∃ r : ℝ, (f i : EReal) = r)
    (hg : (0 : EReal) ≤ greatest (F := Ideal) x ix0) (n : Fin 8) (a : Fin 16) (h w : Fin 256) :
    Val.outVal x co f (ix4 n a h w) = Cert.ReferenceIdeal.Reading.outVal (F := Ideal) x co f (ix4 n a h w) := by
  choose X hX using hx
  choose C hC using hco
  choose f' hf' using hf
  obtain ⟨l, m, el, em, hm, hl⟩ := bounds x X hX hg
  refine (laid_at (valBlock (row64 co) (row27 f) (leasts x) (greatests x) x) (ix4 n a h w) n a h w rfl rfl rfl rfl).trans ?_
  unfold valBlock
  rw [outBlock_apply, least_eq, greatest_eq, img_image]
  refine Eq.trans ?_ (outVal_apply x co f n a h w).symm
  simp only [outIdx_apply, el, em, hX, hC]
  have ef : (fun k => row27 f (ix1 k)) = fun t : Fin 27 => ((f' (ix3 ⟨t / 9, by omega⟩ ⟨t / 3 % 3, by omega⟩ ⟨t % 3, by omega⟩) : ℝ) : EReal) := by
    funext t
    rw [row27_apply]
    exact hf' _
  have ef' : flat f = fun t : Fin 27 => ((f' (ix3 ⟨t / 9, by omega⟩ ⟨t / 3 % 3, by omega⟩ ⟨t % 3, by omega⟩) : ℝ) : EReal) := by
    funext t
    exact hf' _
  rw [ef, ef']
  exact both (fun A B => C (ix2 A B)) _ l m (fun a h w => X (ix4 n a h w)) hm (fun a h w => hl _) _
    (fun A B => (row64_apply co A B).trans (hC _)) a h w

/-- The values are the reference's. -/
theorem val_eq (x : Vec Ideal S8x16x256x256 .f32) (co : Vec Ideal S8x8 .f32) (f : Vec Ideal S3x3x3 .f32)
    (hx : ∀ i, ∃ r : ℝ, (x i : EReal) = r) (hco : ∀ i, ∃ r : ℝ, (co i : EReal) = r) (hf : ∀ i, ∃ r : ℝ, (f i : EReal) = r)
    (hg : (0 : EReal) ≤ greatest (F := Ideal) x ix0) : Val.outVal x co f = Cert.ReferenceIdeal.Reading.outVal (F := Ideal) x co f :=
  funext fun i => (congrArg _ (eq_ix4 i)).trans ((val_at x co f hx hco hf hg (i 0) (i 1) (i 2) (i 3)).trans (congrArg _ (eq_ix4 i).symm))

end Cert.Agree
end
-- ==== Proof.lean ====
/- The five claims: the frames of the three programs, and that kernel and reference compute the same results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.SL.Sem

/-- The reference ends, leaves its arguments as they were, and holds no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2, sem_eq_zero_of_no_sems (by decide) r.2⟩) (Cert.ReferenceIdeal.Reading.run m g)

/-- Kernel and reference end with the same four results, where the precondition holds. -/
theorem algebraic : Cert.algebraic_KernelIdeal_ReferenceIdeal_pre_finite_and_max_nonneg := by
  intro m g m' g' hpre hargs
  refine ⟨fun c => Cert.KernelIdeal.Val.outVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => Cert.KernelIdeal.Val.outIdx (m ((c.tc : Thread Cert.KernelIdeal.nD Cert.KernelIdeal.τ).loc Cert.KernelIdeal.main_arg0)), ?_, ?_⟩
  · refine (θ_run _ _ _).mono (fun r h c => ?_) (Cert.KernelIdeal.Val.run_values m g)
    obtain ⟨h0, h1, h2, h3, h4⟩ := h c
    exact ⟨h0, h3, h4, h1, h2, h3, h4⟩
  · refine (θ_run _ _ _).mono (fun r h c => ?_) (Cert.ReferenceIdeal.Reading.run m' g')
    obtain ⟨h0, h1, h2, h3, h4⟩ := h c
    obtain ⟨a0, a1, a2⟩ := hargs c
    obtain ⟨hx, hco, hf, hg⟩ := Cert.Agree.pre_facts _ _ _ (hpre c)
    refine ⟨h0.trans ?_, h3.trans a1, h4.trans a2, h1.trans ?_, h2, h3, h4⟩
    · rw [a0, a1, a2]
      exact (Cert.Agree.val_eq _ _ _ hx hco hf hg).symm
    · rw [a0]
      exact (Cert.Agree.idx_eq _).symm

/-- All the claims together. -/
theorem claim : Cert.Claim :=
  ⟨Cert.Kernel.Gen.facts, Cert.KernelIdeal.Gen.facts, Cert.ReferenceIdeal.Gen.facts, Cert.Agree.preFacts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, algebraic⟩

end Cert.Proof

end
